-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_KernelIdeal [hPre_routed_KernelIdeal : Cert.Pre_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_ReferenceIdeal [hPre_routed_ReferenceIdeal : Cert.Pre_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routed_KernelIdeal [hKernelIdeal : Cert.KernelIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routed_ReferenceIdeal [hReferenceIdeal : Cert.ReferenceIdeal.Facts] [hPre_routed_ReferenceIdeal : Cert.Pre_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routed_KernelIdeal [hKernelIdeal : Cert.KernelIdeal.Facts] [hReferenceIdeal : Cert.ReferenceIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 256, 512]⟩ ⟨3, ![8, 256, 512]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v88)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v88) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routed_KernelIdeal : Cert.Pre_routed_KernelIdeal.Facts) (hPre_routed_ReferenceIdeal : Cert.Pre_routed_ReferenceIdeal.Facts),
    quiescent_Kernel (hKernel := hKernel)
    ∧ quiescent_KernelIdeal (hKernelIdeal := hKernelIdeal)
    ∧ quiescent_KernelIdeal_pre_routed_KernelIdeal (hKernelIdeal := hKernelIdeal) (hPre_routed_KernelIdeal := hPre_routed_KernelIdeal)
    ∧ quiescent_ReferenceIdeal (hReferenceIdeal := hReferenceIdeal)
    ∧ quiescent_ReferenceIdeal_pre_routed_ReferenceIdeal (hReferenceIdeal := hReferenceIdeal) (hPre_routed_ReferenceIdeal := hPre_routed_ReferenceIdeal)
    ∧ preserves_Kernel_KernelIdeal
    ∧ algebraic_KernelIdeal_ReferenceIdeal_pre_routed_KernelIdeal (hKernelIdeal := hKernelIdeal) (hReferenceIdeal := hReferenceIdeal) (hPre_routed_KernelIdeal := hPre_routed_KernelIdeal)
-- ==== Pre_routed_KernelIdeal.lean ====
abbrev S512x256 : Shape := ⟨2, ![512, 256]⟩
abbrev S256x8 : Shape := ⟨2, ![256, 8]⟩
abbrev S512x1 : Shape := ⟨2, ![512, 1]⟩
abbrev S2x256x512 : Shape := ⟨3, ![2, 256, 512]⟩
abbrev S_ : Shape := ⟨0, ![]⟩

class Facts : Prop where
  bcast_S_S512x1 : S_.BroadcastsInDim S512x1 (![] : Fin 0 → Fin S512x1.rank)
  reducesTo_S512x1_S_d0_1 : S512x1.ReducesTo [0, 1] S_
  h_S_ : 0 < S_.numel

variable [Facts]

def fn {F : FTy → Type} [FloatOps F] (main_arg0 : FVec F S512x256 .f32) (main_arg1 : FVec F S256x8 .f32) (main_arg2 : IVec S512x1 32) (main_arg3 : FVec F S2x256x512 .f32) : IVec S_ 1 :=
  let main_c : IVec S_ 32 := constantI S_ 32 0#32
  let main_v0 : IVec S512x1 32 := broadcastInDim S512x1 ![] bcast_S_S512x1 main_c
  let main_v1 : IVec S512x1 1 := cmpi .sge main_arg2 main_v0
  let main_c_0 : IVec S_ 32 := constantI S_ 32 8#32
  let main_v2 : IVec S512x1 32 := broadcastInDim S512x1 ![] bcast_S_S512x1 main_c_0
  let main_v3 : IVec S512x1 1 := cmpi .slt main_arg2 main_v2
  let main_v4 : IVec S512x1 1 := andi main_v1 main_v3
  let main_c_1 : IVec S_ 1 := constantI S_ 1 1#1
  let main_v5 : IVec S_ 1 := (fun x v => Host.reduce IntOp.andi x v reducesTo_S512x1_S_d0_1 h_S_) main_v4 main_c_1
  main_v5
-- ==== Pre_routed_ReferenceIdeal.lean ====
abbrev S512x256 : Shape := ⟨2, ![512, 256]⟩
abbrev S256x8 : Shape := ⟨2, ![256, 8]⟩
abbrev S512x1 : Shape := ⟨2, ![512, 1]⟩
abbrev S8x256x512 : Shape := ⟨3, ![8, 256, 512]⟩
abbrev S_ : Shape := ⟨0, ![]⟩

class Facts : Prop where
  bcast_S_S512x1 : S_.BroadcastsInDim S512x1 (![] : Fin 0 → Fin S512x1.rank)
  reducesTo_S512x1_S_d0_1 : S512x1.ReducesTo [0, 1] S_
  h_S_ : 0 < S_.numel

variable [Facts]

def fn {F : FTy → Type} [FloatOps F] (main_arg0 : FVec F S512x256 .f32) (main_arg1 : FVec F S256x8 .f32) (main_arg2 : IVec S512x1 32) (main_arg3 : FVec F S8x256x512 .f32) : IVec S_ 1 :=
  let main_c : IVec S_ 32 := constantI S_ 32 0#32
  let main_v0 : IVec S512x1 32 := broadcastInDim S512x1 ![] bcast_S_S512x1 main_c
  let main_v1 : IVec S512x1 1 := cmpi .sge main_arg2 main_v0
  let main_c_0 : IVec S_ 32 := constantI S_ 32 8#32
  let main_v2 : IVec S512x1 32 := broadcastInDim S512x1 ![] bcast_S_S512x1 main_c_0
  let main_v3 : IVec S512x1 1 := cmpi .slt main_arg2 main_v2
  let main_v4 : IVec S512x1 1 := andi main_v1 main_v3
  let main_c_1 : IVec S_ 1 := constantI S_ 1 1#1
  let main_v5 : IVec S_ 1 := (fun x v => Host.reduce IntOp.andi x v reducesTo_S512x1_S_d0_1 h_S_) main_v4 main_c_1
  main_v5
-- ==== Kernel.lean ====
abbrev S512x256 : Shape := ⟨2, ![512, 256]⟩
abbrev S256x8 : Shape := ⟨2, ![256, 8]⟩
abbrev S512x1 : Shape := ⟨2, ![512, 1]⟩
abbrev S2x256x512 : Shape := ⟨3, ![2, 256, 512]⟩
abbrev S512x512 : Shape := ⟨2, ![512, 512]⟩
abbrev S4x112x512 : Shape := ⟨3, ![4, 112, 512]⟩
abbrev S3 : Shape := ⟨1, ![3]⟩
abbrev S_ : Shape := ⟨0, ![]⟩
abbrev S512x8 : Shape := ⟨2, ![512, 8]⟩
abbrev S1x8 : Shape := ⟨2, ![1, 8]⟩
abbrev S511x8 : Shape := ⟨2, ![511, 8]⟩
abbrev S2x8 : Shape := ⟨2, ![2, 8]⟩
abbrev S510x8 : Shape := ⟨2, ![510, 8]⟩
abbrev S4x8 : Shape := ⟨2, ![4, 8]⟩
abbrev S508x8 : Shape := ⟨2, ![508, 8]⟩
abbrev S8x8 : Shape := ⟨2, ![8, 8]⟩
abbrev S504x8 : Shape := ⟨2, ![504, 8]⟩
abbrev S16x8 : Shape := ⟨2, ![16, 8]⟩
abbrev S496x8 : Shape := ⟨2, ![496, 8]⟩
abbrev S32x8 : Shape := ⟨2, ![32, 8]⟩
abbrev S480x8 : Shape := ⟨2, ![480, 8]⟩
abbrev S64x8 : Shape := ⟨2, ![64, 8]⟩
abbrev S448x8 : Shape := ⟨2, ![448, 8]⟩
abbrev S128x8 : Shape := ⟨2, ![128, 8]⟩
abbrev S384x8 : Shape := ⟨2, ![384, 8]⟩
abbrev S512 : Shape := ⟨1, ![512]⟩
abbrev S512x112 : Shape := ⟨2, ![512, 112]⟩
abbrev S112x256 : Shape := ⟨2, ![112, 256]⟩
abbrev S56x256 : Shape := ⟨2, ![56, 256]⟩
abbrev S1x256x512 : Shape := ⟨3, ![1, 256, 512]⟩
abbrev S256x512 : Shape := ⟨2, ![256, 512]⟩
abbrev S56x512 : Shape := ⟨2, ![56, 512]⟩
abbrev S1x56x512 : Shape := ⟨3, ![1, 56, 512]⟩
abbrev S1 : Shape := ⟨1, ![1]⟩
abbrev S1x112x512 : Shape := ⟨3, ![1, 112, 512]⟩
abbrev S112x512 : Shape := ⟨2, ![112, 512]⟩
abbrev S512x448 : Shape := ⟨2, ![512, 448]⟩

abbrev nBuf : Space → Nat
  | .hbm => 5
  | .vmem => 6
  | .smem => 0
  | _ => 0

abbrev bufTy : (tb : Table) → Fin (tcTables nBuf tb) → BufTy
  | .hbm, ⟨0, _⟩ => ⟨S512x256, .f32⟩
  | .hbm, ⟨1, _⟩ => ⟨S256x8, .f32⟩
  | .hbm, ⟨2, _⟩ => ⟨S512x1, .i32⟩
  | .hbm, ⟨3, _⟩ => ⟨S2x256x512, .f32⟩
  | .hbm, ⟨4, _⟩ => ⟨S512x512, .f32⟩
  | .local _ .vmem, ⟨0, _⟩ => ⟨S512x256, .f32⟩
  | .local _ .vmem, ⟨1, _⟩ => ⟨S256x8, .f32⟩
  | .local _ .vmem, ⟨2, _⟩ => ⟨S512x1, .i32⟩
  | .local _ .vmem, ⟨3, _⟩ => ⟨S2x256x512, .f32⟩
  | .local _ .vmem, ⟨4, _⟩ => ⟨S512x512, .f32⟩
  | .local _ .vmem, ⟨5, _⟩ => ⟨S4x112x512, .bf16⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 1 11 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_21 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_20 : BitVec 32 := 1#32
  let v37 : BitVec 32 := Scalar.muli v13 c1_i32_20
  let v38 : BitVec 32 := Scalar.addi c0_i32_21 v37
  v38.toNat
def k0_dev2 (d0 : Dev nD) : Nat :=
  let c0_i32_24 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_23 : BitVec 32 := 1#32
  let v39 : BitVec 32 := Scalar.muli v24 c1_i32_23
  let v40 : BitVec 32 := Scalar.addi c0_i32_24 v39
  v40.toNat
def k0_dev3 (d0 : Dev nD) : Nat :=
  let c0_i32_27 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v25 : BitVec 32 := Scalar.addi v2 c2_i32
  let c4_i32_13 : BitVec 32 := 4#32
  let c0_i32_14 : BitVec 32 := 0#32
  let v26 : BitVec 1 := Scalar.cmpi .eq c4_i32_13 c0_i32_14
  let c1_i32_15 : BitVec 32 := 1#32
  let v27 : BitVec 32 := Scalar.select v26 c1_i32_15 c4_i32_13
  let v28 : BitVec 32 := Scalar.remsi v25 v27
  let c0_i32_17 : BitVec 32 := 0#32
  let v30 : BitVec 1 := Scalar.cmpi .slt v28 c0_i32_17
  let c0_i32_18 : BitVec 32 := 0#32
  let v31 : BitVec 1 := Scalar.cmpi .slt v27 c0_i32_18
  let v32 : BitVec 1 := Scalar.xori v30 v31
  let c0_i32_16 : BitVec 32 := 0#32
  let v29 : BitVec 1 := Scalar.cmpi .ne v28 c0_i32_16
  let v33 : BitVec 1 := Scalar.andi v32 v29
  let v34 : BitVec 32 := Scalar.addi v28 v27
  let v35 : BitVec 32 := Scalar.select v33 v34 v28
  let c1_i32_26 : BitVec 32 := 1#32
  let v41 : BitVec 32 := Scalar.muli v35 c1_i32_26
  let v42 : BitVec 32 := Scalar.addi c0_i32_27 v41
  v42.toNat
def k0_dev4 (d0 : Dev nD) : Nat :=
  let c0_i32_60 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_59 : BitVec 32 := 1#32
  let v131 : BitVec 32 := Scalar.muli v24 c1_i32_59
  let v132 : BitVec 32 := Scalar.addi c0_i32_60 v131
  v132.toNat
def k0_dev5 (d0 : Dev nD) : Nat :=
  let c0_i32_70 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_69 : BitVec 32 := 1#32
  let v141 : BitVec 32 := Scalar.muli v13 c1_i32_69
  let v142 : BitVec 32 := Scalar.addi c0_i32_70 v141
  v142.toNat
def k0_dev6 (d0 : Dev nD) : Nat :=
  let c0_i32_80 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v25 : BitVec 32 := Scalar.addi v2 c2_i32
  let c4_i32_13 : BitVec 32 := 4#32
  let c0_i32_14 : BitVec 32 := 0#32
  let v26 : BitVec 1 := Scalar.cmpi .eq c4_i32_13 c0_i32_14
  let c1_i32_15 : BitVec 32 := 1#32
  let v27 : BitVec 32 := Scalar.select v26 c1_i32_15 c4_i32_13
  let v28 : BitVec 32 := Scalar.remsi v25 v27
  let c0_i32_17 : BitVec 32 := 0#32
  let v30 : BitVec 1 := Scalar.cmpi .slt v28 c0_i32_17
  let c0_i32_18 : BitVec 32 := 0#32
  let v31 : BitVec 1 := Scalar.cmpi .slt v27 c0_i32_18
  let v32 : BitVec 1 := Scalar.xori v30 v31
  let c0_i32_16 : BitVec 32 := 0#32
  let v29 : BitVec 1 := Scalar.cmpi .ne v28 c0_i32_16
  let v33 : BitVec 1 := Scalar.andi v32 v29
  let v34 : BitVec 32 := Scalar.addi v28 v27
  let v35 : BitVec 32 := Scalar.select v33 v34 v28
  let c1_i32_79 : BitVec 32 := 1#32
  let v151 : BitVec 32 := Scalar.muli v35 c1_i32_79
  let v152 : BitVec 32 := Scalar.addi c0_i32_80 v151
  v152.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S512x256 : Shape := ⟨2, ![512, 256]⟩
abbrev S256x8 : Shape := ⟨2, ![256, 8]⟩
abbrev S512x1 : Shape := ⟨2, ![512, 1]⟩
abbrev S8x256x512 : Shape := ⟨3, ![8, 256, 512]⟩
abbrev S512 : Shape := ⟨1, ![512]⟩
abbrev S1x512 : Shape := ⟨2, ![1, 512]⟩
abbrev S512x512 : Shape := ⟨2, ![512, 512]⟩
abbrev S_ : Shape := ⟨0, ![]⟩
abbrev S1x256x512 : Shape := ⟨3, ![1, 256, 512]⟩
abbrev S256x512 : Shape := ⟨2, ![256, 512]⟩

abbrev nBuf : Space → Nat
  | .hbm => 119
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S256x8, .f32⟩
  | .hbm, ⟨2, _⟩ => ⟨S512x1, .i32⟩
  | .hbm, ⟨3, _⟩ => ⟨S8x256x512, .f32⟩
  | .hbm, ⟨4, _⟩ => ⟨S512, .i32⟩
  | .hbm, ⟨5, _⟩ => ⟨S1x512, .i32⟩
  | .hbm, ⟨6, _⟩ => ⟨S512, .i32⟩
  | .hbm, ⟨7, _⟩ => ⟨S512x1, .i32⟩
  | .hbm, ⟨8, _⟩ => ⟨S512x512, .i32⟩
  | .hbm, ⟨9, _⟩ => ⟨S512x512, .i32⟩
  | .hbm, ⟨10, _⟩ => ⟨S512x512, .i1⟩
  | .hbm, ⟨11, _⟩ => ⟨S512, .i32⟩
  | .hbm, ⟨12, _⟩ => ⟨S1x512, .i32⟩
  | .hbm, ⟨13, _⟩ => ⟨S512x512, .i32⟩
  | .hbm, ⟨14, _⟩ => ⟨S512x512, .i32⟩
  | .hbm, ⟨15, _⟩ => ⟨S512x512, .i1⟩
  | .hbm, ⟨16, _⟩ => ⟨S512x512, .i1⟩
  | .hbm, ⟨17, _⟩ => ⟨S512x512, .i32⟩
  | .hbm, ⟨18, _⟩ => ⟨S_, .i32⟩
  | .hbm, ⟨19, _⟩ => ⟨S512, .i32⟩
  | .hbm, ⟨20, _⟩ => ⟨S512x1, .i32⟩
  | .hbm, ⟨21, _⟩ => ⟨S_, .f32⟩
  | .hbm, ⟨22, _⟩ => ⟨S512x512, .f32⟩
  | .hbm, ⟨23, _⟩ => ⟨S_, .i32⟩
  | .hbm, ⟨24, _⟩ => ⟨S512x1, .i32⟩
  | .hbm, ⟨25, _⟩ => ⟨S512x1, .i1⟩
  | .hbm, ⟨26, _⟩ => ⟨S_, .i32⟩
  | .hbm, ⟨27, _⟩ => ⟨S512x1, .i32⟩
  | .hbm, ⟨28, _⟩ => ⟨S512x1, .i1⟩
  | .hbm, ⟨29, _⟩ => ⟨S512x1, .i1⟩
  | .hbm, ⟨30, _⟩ => ⟨S1x256x512, .f32⟩
  | .hbm, ⟨31, _⟩ => ⟨S256x512, .f32⟩
  | .hbm, ⟨32, _⟩ => ⟨S512x512, .f32⟩
  | .hbm, ⟨33, _⟩ => ⟨S512x512, .i1⟩
  | .hbm, ⟨34, _⟩ => ⟨S512x512, .f32⟩
  | .hbm, ⟨35, _⟩ => ⟨S_, .i32⟩
  | .hbm, ⟨36, _⟩ => ⟨S512x1, .i32⟩
  | .hbm, ⟨37, _⟩ => ⟨S512x1, .i1⟩
  | .hbm, ⟨38, _⟩ => ⟨S_, .i32⟩
  | .hbm, ⟨39, _⟩ => ⟨S512x1, .i32⟩
  | .hbm, ⟨40, _⟩ => ⟨S512x1, .i1⟩
  | .hbm, ⟨41, _⟩ => ⟨S512x1, .i1⟩
  | .hbm, ⟨42, _⟩ => ⟨S1x256x512, .f32⟩
  | .hbm, ⟨43, _⟩ => ⟨S256x512, .f32⟩
  | .hbm, ⟨44, _⟩ => ⟨S512x512, .f32⟩
  | .hbm, ⟨45, _⟩ => ⟨S512x512, .i1⟩
  | .hbm, ⟨46, _⟩ => ⟨S512x512, .f32⟩
  | .hbm, ⟨47, _⟩ => ⟨S_, .i32⟩
  | .hbm, ⟨48, _⟩ => ⟨S512x1, .i32⟩
  | .hbm, ⟨49, _⟩ => ⟨S512x1, .i1⟩
  | .hbm, ⟨50, _⟩ => ⟨S_, .i32⟩
  | .hbm, ⟨51, _⟩ => ⟨S512x1, .i32⟩
  | .hbm, ⟨52, _⟩ => ⟨S512x1, .i1⟩
  | .hbm, ⟨53, _⟩ => ⟨S512x1, .i1⟩
  | .hbm, ⟨54, _⟩ => ⟨S1x256x512, .f32⟩
  | .hbm, ⟨55, _⟩ => ⟨S256x512, .f32⟩
  | .hbm, ⟨56, _⟩ => ⟨S512x512, .f32⟩
  | .hbm, ⟨57, _⟩ => ⟨S512x512, .i1⟩
  | .hbm, ⟨58, _⟩ => ⟨S512x512, .f32⟩
  | .hbm, ⟨59, _⟩ => ⟨S_, .i32⟩
  | .hbm, ⟨60, _⟩ => ⟨S512x1, .i32⟩
  | .hbm, ⟨61, _⟩ => ⟨S512x1, .i1⟩
  | .hbm, ⟨62, _⟩ => ⟨S_, .i32⟩
  | .hbm, ⟨63, _⟩ => ⟨S512x1, .i32⟩
  | .hbm, ⟨64, _⟩ => ⟨S512x1, .i1⟩
  | .hbm, ⟨65, _⟩ => ⟨S512x1, .i1⟩
  | .hbm, ⟨66, _⟩ => ⟨S1x256x512, .f32⟩
  | .hbm, ⟨67, _⟩ => ⟨S256x512, .f32⟩
  | .hbm, ⟨68, _⟩ => ⟨S512x512, .f32⟩
  | .hbm, ⟨69, _⟩ => ⟨S512x512, .i1⟩
  | .hbm, ⟨70, _⟩ => ⟨S512x512, .f32⟩
  | .hbm, ⟨71, _⟩ => ⟨S_, .i32⟩
  | .hbm, ⟨72, _⟩ => ⟨S512x1, .i32⟩
  | .hbm, ⟨73, _⟩ => ⟨S512x1, .i1⟩
  | .hbm, ⟨74, _⟩ => ⟨S_, .i32⟩
  | .hbm, ⟨75, _⟩ => ⟨S512x1, .i32⟩
  | .hbm, ⟨76, _⟩ => ⟨S512x1, .i1⟩
  | .hbm, ⟨77, _⟩ => ⟨S512x1, .i1⟩
  | .hbm, ⟨78, _⟩ => ⟨S1x256x512, .f32⟩
  | .hbm, ⟨79, _⟩ => ⟨S256x512, .f32⟩
  | .hbm, ⟨80, _⟩ => ⟨S512x512, .f32⟩
  | .hbm, ⟨81, _⟩ => ⟨S512x512, .i1⟩
  | .hbm, ⟨82, _⟩ => ⟨S512x512, .f32⟩
  | .hbm, ⟨83, _⟩ => ⟨S_, .i32⟩
  | .hbm, ⟨84, _⟩ => ⟨S512x1, .i32⟩
  | .hbm, ⟨85, _⟩ => ⟨S512x1, .i1⟩
  | .hbm, ⟨86, _⟩ => ⟨S_, .i32⟩
  | .hbm, ⟨87, _⟩ => ⟨S512x1, .i32⟩
  | .hbm, ⟨88, _⟩ => ⟨S512x1, .i1⟩
  | .hbm, ⟨89, _⟩ => ⟨S512x1, .i1⟩
  | .hbm, ⟨90, _⟩ => ⟨S1x256x512, .f32⟩
  | .hbm, ⟨91, _⟩ => ⟨S256x512, .f32⟩
  | .hbm, ⟨92, _⟩ => ⟨S512x512, .f32⟩
  | .hbm, ⟨93, _⟩ => ⟨S512x512, .i1⟩
  | .hbm, ⟨94, _⟩ => ⟨S512x512, .f32⟩
  | .hbm, ⟨95, _⟩ => ⟨S_, .i32⟩
  | .hbm, ⟨96, _⟩ => ⟨S512x1, .i32⟩
  | .hbm, ⟨97, _⟩ => ⟨S512x1, .i1⟩
  | .hbm, ⟨98, _⟩ => ⟨S_, .i32⟩
  | .hbm, ⟨99, _⟩ => ⟨S512x1, .i32⟩
  | .hbm, ⟨100, _⟩ => ⟨S512x1, .i1⟩
  | .hbm, ⟨101, _⟩ => ⟨S512x1, .i1⟩
  | .hbm, ⟨102, _⟩ => ⟨S1x256x512, .f32⟩
  | .hbm, ⟨103, _⟩ => ⟨S256x512, .f32⟩
  | .hbm, ⟨104, _⟩ => ⟨S512x512, .f32⟩
  | .hbm, ⟨105, _⟩ => ⟨S512x512, .i1⟩
  | .hbm, ⟨106, _⟩ => ⟨S512x512, .f32⟩
  | .hbm, ⟨107, _⟩ => ⟨S_, .i32⟩
  | .hbm, ⟨108, _⟩ => ⟨S512x1, .i32⟩
  | .hbm, ⟨109, _⟩ => ⟨S512x1, .i1⟩
  | .hbm, ⟨110, _⟩ => ⟨S_, .i32⟩
  | .hbm, ⟨111, _⟩ => ⟨S512x1, .i32⟩
  | .hbm, ⟨112, _⟩ => ⟨S512x1, .i1⟩
  | .hbm, ⟨113, _⟩ => ⟨S512x1, .i1⟩
  | .hbm, ⟨114, _⟩ => ⟨S1x256x512, .f32⟩
  | .hbm, ⟨115, _⟩ => ⟨S256x512, .f32⟩
  | .hbm, ⟨116, _⟩ => ⟨S512x512, .f32⟩
  | .hbm, ⟨117, _⟩ => ⟨S512x512, .i1⟩
  | .hbm, ⟨118, _⟩ => ⟨S512x512, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_c_0 : Ref sig .tc := ⟨.hbm, 23, rfl⟩
abbrev main_v17 : Ref sig .tc := ⟨.hbm, 24, rfl⟩
abbrev main_v18 : Ref sig .tc := ⟨.hbm, 25, rfl⟩
abbrev main_c_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_call0_v0 : Ref sig .tc := ⟨.hbm, 33, rfl⟩
abbrev main_v25 : Ref sig .tc := ⟨.hbm, 34, rfl⟩
abbrev main_c_2 : Ref sig .tc := ⟨.hbm, 35, rfl⟩
abbrev main_v26 : Ref sig .tc := ⟨.hbm, 36, rfl⟩
abbrev main_v27 : Ref sig .tc := ⟨.hbm, 37, rfl⟩
abbrev main_c_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_call1_v0 : Ref sig .tc := ⟨.hbm, 45, rfl⟩
abbrev main_v34 : Ref sig .tc := ⟨.hbm, 46, rfl⟩
abbrev main_c_4 : Ref sig .tc := ⟨.hbm, 47, rfl⟩
abbrev main_v35 : Ref sig .tc := ⟨.hbm, 48, rfl⟩
abbrev main_v36 : Ref sig .tc := ⟨.hbm, 49, rfl⟩
abbrev main_c_5 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_call2_v0 : Ref sig .tc := ⟨.hbm, 57, rfl⟩
abbrev main_v43 : Ref sig .tc := ⟨.hbm, 58, rfl⟩
abbrev main_c_6 : Ref sig .tc := ⟨.hbm, 59, rfl⟩
abbrev main_v44 : Ref sig .tc := ⟨.hbm, 60, rfl⟩
abbrev main_v45 : Ref sig .tc := ⟨.hbm, 61, rfl⟩
abbrev main_c_7 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_call3_v0 : Ref sig .tc := ⟨.hbm, 69, rfl⟩
abbrev main_v52 : Ref sig .tc := ⟨.hbm, 70, rfl⟩
abbrev main_c_8 : Ref sig .tc := ⟨.hbm, 71, rfl⟩
abbrev main_v53 : Ref sig .tc := ⟨.hbm, 72, rfl⟩
abbrev main_v54 : Ref sig .tc := ⟨.hbm, 73, rfl⟩
abbrev main_c_9 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_call4_v0 : Ref sig .tc := ⟨.hbm, 81, rfl⟩
abbrev main_v61 : Ref sig .tc := ⟨.hbm, 82, rfl⟩
abbrev main_c_10 : Ref sig .tc := ⟨.hbm, 83, rfl⟩
abbrev main_v62 : Ref sig .tc := ⟨.hbm, 84, rfl⟩
abbrev main_v63 : Ref sig .tc := ⟨.hbm, 85, rfl⟩
abbrev main_c_11 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_call5_v0 : Ref sig .tc := ⟨.hbm, 93, rfl⟩
abbrev main_v70 : Ref sig .tc := ⟨.hbm, 94, rfl⟩
abbrev main_c_12 : Ref sig .tc := ⟨.hbm, 95, rfl⟩
abbrev main_v71 : Ref sig .tc := ⟨.hbm, 96, rfl⟩
abbrev main_v72 : Ref sig .tc := ⟨.hbm, 97, rfl⟩
abbrev main_c_13 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_call6_v0 : Ref sig .tc := ⟨.hbm, 105, rfl⟩
abbrev main_v79 : Ref sig .tc := ⟨.hbm, 106, rfl⟩
abbrev main_c_14 : Ref sig .tc := ⟨.hbm, 107, rfl⟩
abbrev main_v80 : Ref sig .tc := ⟨.hbm, 108, rfl⟩
abbrev main_v81 : Ref sig .tc := ⟨.hbm, 109, rfl⟩
abbrev main_c_15 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_call7_v0 : Ref sig .tc := ⟨.hbm, 117, rfl⟩
abbrev main_v88 : Ref sig .tc := ⟨.hbm, 118, rfl⟩

abbrev nD : Nat := 1
abbrev τ : Topo := Topo.v7x

variable {F : FTy → Type} [FloatOps F]
-- ==== Proof.Slots.lean ====
/-
# The exchange buffer: four slots of one scratch array

The kernel keeps one 4×112×512 scratch array on every device. Slot 0 takes the rows the device computes
itself, slots 1, 2 and 3 take the rows the three other devices copy over. Here: which elements a slot
has, that the four slots are disjoint and make up the array, and what a load, a store or a copy does to
contents which are the same in every slot.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.Pointwise.Index

@[expose] public section

noncomputable section

namespace Cert.Moe

open Cert.KernelIdeal Cert.KernelIdeal.Gen
open Idealize.ShloMosaic Idealize.ShloMosaic.TcCoe

variable {F : FTy → Type}

/-! ## The memrefs -/

/-- The scratch array, whole. -/
abbrev scrM : Memref sig .tc .vmem S4x112x512 .bf16 := Memref.whole cc0_scratch0

/-- A slot lies in the array. -/
theorem slot_inb (k : Fin 4) : ∀ a, (![k.val, 0, 0] : Fin 3 → ℕ) a + S1x112x512.size a ≤ S4x112x512.size a := by
  revert k; decide

/-- The rectangle of slot `k`. -/
abbrev slotR (k : Fin 4) : Rect S4x112x512 := Rect.unit (s := S4x112x512) ![k.val, 0, 0] S1x112x512.size (slot_inb k)

/-- Slot `k` as a 112×512 array. -/
abbrev slotM (k : Fin 4) : Memref sig .tc .vmem S112x512 .bf16 :=
  (scrM.slice (slotR k) (fun _ => rfl)).squeeze S112x512 squeezes_S1x112x512_S112x512

/-- The elements of slot `k`. -/
abbrev slotSet (k : Fin 4) : Finset S4x112x512.Idx := (slotM k).view.set

/-- An element belongs to slot `k` when its first coordinate is `k`. -/
theorem mem_slot (k : Fin 4) (i : S4x112x512.Idx) : i ∈ slotSet k ↔ i 0 = k := by
  have h0 : slotSet k = (slotR k).set :=
    (Memref.set_view_squeeze _ _).trans ((View.set_slice (View.whole cc0_scratch0) (slotR k)).trans Finset.map_refl)
  rw [h0, LoadRect.mem_set]
  constructor
  · intro h
    obtain ⟨j, hj, e⟩ := h 0
    have hj' : j < 1 := hj
    have e' : (i 0).val = k.val + 1 * j := e
    exact Fin.ext (by omega)
  · intro h a
    have hk : (i 0).val = k.val := congrArg Fin.val h
    fin_cases a
    · exact ⟨0, Nat.one_pos, by show (i 0).val = k.val + 1 * 0; omega⟩
    · exact ⟨(i 1).val, (i 1).isLt, by show (i 1).val = 0 + 1 * (i 1).val; omega⟩
    · exact ⟨(i 2).val, (i 2).isLt, by show (i 2).val = 0 + 1 * (i 2).val; omega⟩

/-- Different slots share no element, -/
theorem slot_disjoint (k k' : Fin 4) (h : k ≠ k') : Disjoint (slotSet k) (slotSet k') :=
  Finset.disjoint_left.mpr fun i hi hi' => h (((mem_slot k i).mp hi).symm.trans ((mem_slot k' i).mp hi'))

/-- and every element belongs to a slot. -/
theorem slot_cover : Finset.univ.biUnion slotSet = Finset.univ :=
  Finset.eq_univ_of_forall fun i => Finset.mem_biUnion.mpr ⟨i 0, Finset.mem_univ _, (mem_slot _ i).mpr rfl⟩

/-! ## Contents that do not read the slot -/

/-- The array's contents that hold `X` in every slot. -/
def spread (X : S112x512.Idx → Elt F .bf16) : S4x112x512.Idx → Elt F .bf16 :=
  fun i => X (ix2 (n0 := 112) (n1 := 512) (i 1) (i 2))

/-- `X` with a leading axis of size one: what a load of a slot reads. -/
def slab (X : S112x512.Idx → Elt F .bf16) : S1x112x512.Idx → Elt F .bf16 :=
  fun j => X (ix2 (n0 := 112) (n1 := 512) (j 1) (j 2))

/-- Loading any slot of `spread X` reads `X`. -/
theorem read_slot (k : Fin 4) (X : S112x512.Idx → Elt F .bf16) :
    scrM.view.readAt (Elt F) (slotR k).toLoadRect (spread X) = slab X := by
  funext j
  show spread X ((slotR k).idx j) = slab X j
  unfold spread slab
  congr 2
  · exact Fin.ext (by show 0 + 1 * (j 1).val = (j 1).val; omega)
  · exact Fin.ext (by show 0 + 1 * (j 2).val = (j 2).val; omega)

/-- Two elements at the same place of two slots hold the same. -/
theorem spread_emb (k k' : Fin 4) (X : S112x512.Idx → Elt F .bf16) (x : S112x512.Idx) :
    spread X ((slotM k).view.emb x) = spread X ((slotM k').view.emb x) := rfl

/-- A copy from one slot of `spread X` into another leaves `spread X` there. -/
theorem copy_slot (k k' : Fin 4) (X : S112x512.Idx → Elt F .bf16) (f : S4x112x512.Idx → Elt F .bf16)
    (i : S4x112x512.Idx) (hi : i ∈ slotSet k') :
    (slotM k').view.write (Elt F) f ((slotM k).view.read (Elt F) (spread X)) Finset.univ i = spread X i := by
  obtain ⟨x, -, rfl⟩ := Finset.mem_map.mp hi
  exact (View.write_emb_of_mem (v := (slotM k').view) (Val := Elt F) f ((slotM k).view.read (Elt F) (spread X)) (Finset.mem_univ x)).trans (spread_emb k k' X x)

/-! ## The two halves of slot 0 -/

/-- The upper 56 rows of slot 0; -/
abbrev upR : Rect S4x112x512 := Rect.unit (s := S4x112x512) ![0, 0, 0] S1x56x512.size inb_S4x112x512_S1x56x512_0_0_0
/-- the lower 56. -/
abbrev downR : Rect S4x112x512 := Rect.unit (s := S4x112x512) ![0, 56, 0] S1x56x512.size inb_S4x112x512_S1x56x512_0_56_0

/-- A block of 56 rows over another. -/
def stack (P Q : S1x56x512.Idx → Elt F .bf16) : S112x512.Idx → Elt F .bf16 := fun i =>
  if h : (i 0).val < 56 then P (ix3 (n0 := 1) (n1 := 56) (n2 := 512) 0 ⟨(i 0).val, h⟩ (i 1))
  else Q (ix3 (n0 := 1) (n1 := 56) (n2 := 512) 0 ⟨(i 0).val - 56, by have : (i 0).val < 112 := (i 0).isLt; omega⟩ (i 1))

/-- A load of the upper half reads elements of slot 0, -/
theorem up_subset : scrM.view.setOn upR.set ⊆ slotSet 0 := by
  intro i hi
  obtain ⟨x, hx, rfl⟩ := Finset.mem_map.mp hi
  obtain ⟨j, hj, e⟩ := (LoadRect.mem_set _).mp hx 0
  have hj' : j < 1 := hj
  have e' : (x 0).val = 0 + 1 * j := e
  exact (mem_slot 0 _).mpr (Fin.ext (by show (x 0).val = 0; omega))

/-- and so does a load of the lower half. -/
theorem down_subset : scrM.view.setOn downR.set ⊆ slotSet 0 := by
  intro i hi
  obtain ⟨x, hx, rfl⟩ := Finset.mem_map.mp hi
  obtain ⟨j, hj, e⟩ := (LoadRect.mem_set _).mp hx 0
  have hj' : j < 1 := hj
  have e' : (x 0).val = 0 + 1 * j := e
  exact (mem_slot 0 _).mpr (Fin.ext (by show (x 0).val = 0; omega))

/-- A store to the upper half writes elements of slot 0, -/
theorem up_access : (scrM.access upR).setOn Finset.univ ⊆ slotSet 0 := by
  intro i hi
  obtain ⟨x, -, rfl⟩ := Finset.mem_map.mp hi
  have h : (x 0).val < 1 := (x 0).isLt
  exact (mem_slot 0 _).mpr (Fin.ext (by show 0 + 1 * (x 0).val = 0; omega))

/-- and so does a store to the lower half. -/
theorem down_access : (scrM.access downR).setOn Finset.univ ⊆ slotSet 0 := by
  intro i hi
  obtain ⟨x, -, rfl⟩ := Finset.mem_map.mp hi
  have h : (x 0).val < 1 := (x 0).isLt
  exact (mem_slot 0 _).mpr (Fin.ext (by show 0 + 1 * (x 0).val = 0; omega))

/-- A load of slot `k` reads elements of slot `k`. -/
theorem slot_subset (k : Fin 4) : scrM.view.setOn (slotR k).set ⊆ slotSet k := by
  intro i hi
  obtain ⟨x, hx, rfl⟩ := Finset.mem_map.mp hi
  obtain ⟨j, hj, e⟩ := (LoadRect.mem_set _).mp hx 0
  have hj' : j < 1 := hj
  have e' : (x 0).val = k.val + 1 * j := e
  exact (mem_slot k _).mpr (Fin.ext (by show (x 0).val = k.val; omega))

/-- After both stores slot 0 holds the two blocks, one over the other. -/
theorem stores_slot (P Q : S1x56x512.Idx → Elt F .bf16) (f : S4x112x512.Idx → Elt F .bf16)
    (i : S4x112x512.Idx) (hi : i ∈ slotSet 0) :
    (scrM.access downR : View sig .tc _ _ _).write (Elt F) ((scrM.access upR : View sig .tc _ _ _).write (Elt F) f P Finset.univ) Q Finset.univ i
      = spread (stack P Q) i := by
  have hi0 := (mem_slot 0 i).mp hi
  by_cases h : (i 1).val < 56
  · have hx : (scrM.access upR).emb (ix3 (n0 := 1) (n1 := 56) (n2 := 512) 0 ⟨(i 1).val, h⟩ (i 2)) = i := by
      funext a
      fin_cases a
      · exact Fin.ext (by show 0 + 1 * 0 = (i 0).val; rw [hi0]; rfl)
      · exact Fin.ext (by show 0 + 1 * (i 1).val = (i 1).val; omega)
      · exact Fin.ext (by show 0 + 1 * (i 2).val = (i 2).val; omega)
    have hnot : i ∉ (scrM.access downR).setOn Finset.univ := by
      intro hm
      obtain ⟨x, -, e⟩ := Finset.mem_map.mp hm
      have e' : 56 + 1 * (x 1).val = (i 1).val := congrArg (fun y : S4x112x512.Idx => (y 1).val) e
      omega
    rw [View.write_of_not_mem _ _ _ hnot]
    have h1 := View.write_emb_of_mem (v := scrM.access upR) (Val := Elt F) f P (Finset.mem_univ (ix3 (n0 := 1) (n1 := 56) (n2 := 512) 0 ⟨(i 1).val, h⟩ (i 2)))
    rw [hx] at h1
    refine h1.trans ?_
    show P _ = spread (stack P Q) i
    unfold spread stack
    rw [dif_pos (show ((ix2 (n0 := 112) (n1 := 512) (i 1) (i 2)) 0).val < 56 from h)]
    rfl
  · have hlt : (i 1).val < 112 := (i 1).isLt
    have hx : (scrM.access downR).emb (ix3 (n0 := 1) (n1 := 56) (n2 := 512) 0 ⟨(i 1).val - 56, by omega⟩ (i 2)) = i := by
      funext a
      fin_cases a
      · exact Fin.ext (by show 0 + 1 * 0 = (i 0).val; rw [hi0]; rfl)
      · exact Fin.ext (by show 56 + 1 * ((i 1).val - 56) = (i 1).val; omega)
      · exact Fin.ext (by show 0 + 1 * (i 2).val = (i 2).val; omega)
    have h1 := View.write_emb_of_mem (v := scrM.access downR) (Val := Elt F) ((scrM.access upR : View sig .tc _ _ _).write (Elt F) f P Finset.univ) Q
      (Finset.mem_univ (ix3 (n0 := 1) (n1 := 56) (n2 := 512) 0 ⟨(i 1).val - 56, by omega⟩ (i 2)))
    rw [hx] at h1
    refine h1.trans ?_
    show Q _ = spread (stack P Q) i
    unfold spread stack
    rw [dif_neg (show ¬ ((ix2 (n0 := 112) (n1 := 512) (i 1) (i 2)) 0).val < 56 from h)]
    rfl

end Cert.Moe

end
-- ==== Proof.Exchange.lean ====
/-
# The exchange: who signals whom, what is copied where, and what each wait is worth

Four devices exchange their rows pairwise. Every device signals the barrier semaphore of the three
others, waits for three signals on its own, starts three copies of its slot 0 (copy 0 to the device
after it, copy 1 to the device before it, copy 2 across), and later waits on the three receive and the
three send semaphores.

A device that signals lends the receiver of the signal the slot that the receiver's copy lands in. The
copy hands the slot back, filled, on the receive semaphore of the device it lands on; and hands the share
of slot 0 it read from back on the send semaphore of the device it left from.
-/
module

public import proofs.«01_k».proof.Proof.Slots
public import Idealize.ShloMosaic.Lib.Ring

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resources: the staging library's own, and one-round cells with up to three duties -/

/-- The rounds' resource, the copy's number naming a duty; -/
abbrev UB : Type := URounds (GSem nD τ sig) (Fin 3)
/-- beside the staging library's. -/
abbrev UU : Type := UR sig nD τ × UB

local notation "𝕄" => MT nD τ sig Unit (Elt F) ℕ UU ℕ

/-- The staging library's place in it; -/
abbrev EP : Emb (UR sig nD τ) (MT nD τ sig Unit (Elt F) ℕ UU ℕ) := embL
/-- the rounds' place. -/
abbrev ER : Emb UB (MT nD τ sig Unit (Elt F) ℕ UU ℕ) := embR

variable (m : (ℓ : Loc nD τ sig) → Buf (Elt F) ℓ) (ρ : Dev nD → PrngReg)

/-- The memory at launch. -/
def s₀ : MemSt nD τ sig (Elt F) := ⟨m, fun _ => 0, ρ⟩

/-! ## The devices -/

set_option backward.proofsInPublic true in
/-- The device copy `k` of device `c` goes to: the one after it, the one before it, the one across. -/
def dest (k : Fin 3) (c : Dev nD) : Dev nD := ⟨(c.val + (![1, 3, 2] : Fin 3 → ℕ) k) % 4, Nat.mod_lt _ (by decide)⟩
set_option backward.proofsInPublic true in
/-- The device whose copy `k` comes to device `c`. -/
def orig (k : Fin 3) (c : Dev nD) : Dev nD := ⟨(c.val + (![3, 1, 2] : Fin 3 → ℕ) k) % 4, Nat.mod_lt _ (by decide)⟩
/-- The slot copy `k` lands in. -/
def land : Fin 3 → Fin 4 := ![3, 1, 2]

/-- The copy that comes from a device goes back to it, -/
theorem dest_orig (k : Fin 3) (c : Dev nD) : dest k (orig k c) = c := by revert k c; decide
/-- and the other way about. -/
theorem orig_dest (k : Fin 3) (c : Dev nD) : orig k (dest k c) = c := by revert k c; decide

/-- Sending along copy `k`, as a permutation of the devices. -/
def turn (k : Fin 3) : Dev nD ≃ Dev nD := ⟨dest k, orig k, orig_dest k, dest_orig k⟩

/-! The devices the kernel computes: the three signals' and the three copies'. -/

/-- The first signal goes to where copy 0 comes from, -/
theorem dev1_eq (c : Dev nD) : (⟨k0_dev1 c, k0_dev1_lt c⟩ : Dev nD) = orig 0 c := by revert c; decide
/-- the second to where copy 1 does, -/
theorem dev2_eq (c : Dev nD) : (⟨k0_dev2 c, k0_dev2_lt c⟩ : Dev nD) = orig 1 c := by revert c; decide
/-- the third to where copy 2 does; -/
theorem dev3_eq (c : Dev nD) : (⟨k0_dev3 c, k0_dev3_lt c⟩ : Dev nD) = orig 2 c := by revert c; decide
/-- the first copy goes to its destination, -/
theorem dev4_eq (c : Dev nD) : (⟨k0_dev4 c, k0_dev4_lt c⟩ : Dev nD) = dest 0 c := by revert c; decide
/-- the second to its own, -/
theorem dev5_eq (c : Dev nD) : (⟨k0_dev5 c, k0_dev5_lt c⟩ : Dev nD) = dest 1 c := by revert c; decide
/-- the third to its own. -/
theorem dev6_eq (c : Dev nD) : (⟨k0_dev6 c, k0_dev6_lt c⟩ : Dev nD) = dest 2 c := by revert c; decide

/-! ## The semaphores -/

/-- The barrier semaphore; -/
abbrev barS : Sem sig := (SemArray.scalar (sig.barrier 0 rfl) : Sems sig S_).sem
/-- the send semaphore of copy `k`, -/
abbrev sendS (k : Fin 3) : DmaSem sig := ⟨5 + k.val, by have := k.isLt; show 5 + k.val < 11; omega⟩
/-- and its receive semaphore. -/
abbrev recvS (k : Fin 3) : DmaSem sig := ⟨8 + k.val, by have := k.isLt; show 8 + k.val < 11; omega⟩

/-- These semaphores on device `c`: the barrier's cell, -/
abbrev barCell (c : Dev nD) : GSem nD τ sig := ((c : Thread nD τ), .reg barS)
/-- copy `k`'s send cell, -/
abbrev sendCell (k : Fin 3) (c : Dev nD) : GSem nD τ sig := ((c : Thread nD τ), .dma (sendS k))
/-- copy `k`'s receive cell. -/
abbrev recvCell (k : Fin 3) (c : Dev nD) : GSem nD τ sig := ((c : Thread nD τ), .dma (recvS k))

/-- A device's seven cells: the barrier, the sends, the receives. -/
abbrev Cell : Type := Option (Fin 3 ⊕ Fin 3)
/-- The semaphore a cell stands for; -/
abbrev csem : Cell → SemLoc sig
  | none => .reg barS
  | some (.inl k) => .dma (sendS k)
  | some (.inr k) => .dma (recvS k)
/-- the cell of a device by its name. -/
abbrev kcell (ck : Dev nD × Cell) : GSem nD τ sig := ((ck.1 : Thread nD τ), csem ck.2)

/-- The credit of one copy. -/
abbrev N : ℕ := (slotM 0).view.dmaCredit
/-- It is not nothing. -/
theorem N_pos : 0 < N := View.dmaCredit_pos _ (by decide)

/-! ## What the slots hold -/

/-- The rows one device computes, from its own position word, the tokens, the routes and its weights. -/
def rowsOf (w : BitVec 32) (x : Vec F S512x256 .f32) (r : Vec F S512x1 .i32) (W : S2x256x512.Idx → Elt F .f32) :
    S112x512.Idx → Elt F .bf16 :=
  stack
    (k0_pay10 (k0_pay9 w (k0_pay1 (F := F) r) (k0_pay2 r) (k0_pay3 r) (k0_pay4 (F := F)) x
      ((Memref.whole cc0_stg3_0).view.readAt (Elt F) (Rect.unit (s := S2x256x512) ![0, 0, 0] S1x256x512.size inb_S2x256x512_S1x256x512_0_0_0).toLoadRect W)))
    (k0_pay11 (k0_pay8 w (k0_pay1 (F := F) r) (k0_pay2 r) (k0_pay3 r) (k0_pay4 (F := F)) x)
      ((Memref.whole cc0_stg3_0).view.readAt (Elt F) (Rect.unit (s := S2x256x512) ![1, 0, 0] S1x256x512.size inb_S2x256x512_S1x256x512_1_0_0).toLoadRect W))

/-- Where device `w` scatters the slots' rows to. -/
def maskOf (w : BitVec 32) (r : Vec F S512x1 .i32) : IVec S512x448 32 :=
  k0_pay12 w (k0_pay6 (F := F) (k0_pay2 r) (k0_pay3 r) k0_pay4) (k0_pay7 (F := F) (k0_pay1 (F := F) r) (k0_pay2 r) (k0_pay3 r) k0_pay4)

/-- The result a device writes, from the rows in its four slots. -/
def resultOf (w : BitVec 32) (r : Vec F S512x1 .i32) (Y : Fin 4 → S112x512.Idx → Elt F .bf16) : Vec F S512x512 .f32 :=
  k0_pay16 (k0_pay13 (F := F) (maskOf w r)) (k0_pay14 (maskOf w r) (slab (Y 0)) (slab (Y 3))) (k0_pay15 (F := F) (maskOf w r)) (slab (Y 1)) (slab (Y 2))

/-- A device's own position, as the word the kernel computes. -/
def word (c : Dev nD) : BitVec 32 := Scalar.remsi (Scalar.divsi (Dev.word c) 1#32) 4#32

/-- The blocks of the four arguments a device stages: its tokens, -/
def xstg (c : Dev nD) : (cc0_stg0_0 : Ref sig .tc).ty.Contents (Elt F) :=
  (win0_0.blk (0 : Fin 1)).view.read (Elt F) ((s₀ m ρ).mem ((c : Thread nD τ).loc main_arg0))
/-- the router's weights (which the kernel does not read), -/
def ustg (c : Dev nD) : (cc0_stg1_0 : Ref sig .tc).ty.Contents (Elt F) :=
  (win0_1.blk (0 : Fin 1)).view.read (Elt F) ((s₀ m ρ).mem ((c : Thread nD τ).loc main_arg1))
/-- the routes, -/
def rstg (c : Dev nD) : (cc0_stg2_0 : Ref sig .tc).ty.Contents (Elt F) :=
  (win0_2.blk (0 : Fin 1)).view.read (Elt F) ((s₀ m ρ).mem ((c : Thread nD τ).loc main_arg2))
/-- the device's two experts. -/
def wstg (c : Dev nD) : (cc0_stg3_0 : Ref sig .tc).ty.Contents (Elt F) :=
  (win0_3.blk (0 : Fin 1)).view.read (Elt F) ((s₀ m ρ).mem ((c : Thread nD τ).loc main_arg3))

/-- The rows device `c` computes. -/
def rows (c : Dev nD) : S112x512.Idx → Elt F .bf16 := rowsOf (word c) (xstg m ρ c) (rstg m ρ c) (wstg m ρ c)

/-- What device `c`'s slots hold at the end: its own rows, then those of the devices after, across, before. -/
def slots (c : Dev nD) : Fin 4 → S112x512.Idx → Elt F .bf16 := ![rows m ρ c, rows m ρ (orig 1 c), rows m ρ (orig 2 c), rows m ρ (orig 0 c)]

/-- The result device `c` writes. -/
def outAt (c : Dev nD) : (cc0_stg4_0 : Ref sig .tc).ty.Contents (Elt F) := resultOf (word c) (rstg m ρ c) (slots m ρ c)

/-- Slot `k` of device `c`, at share `q`, holding `f`. -/
def slotPts (c : Dev nD) (k : Fin 4) (q : PosShare TreeShare) (f : Buf (Elt F) ((c : Thread nD τ).loc cc0_scratch0)) : sProp 𝕄 :=
  ((c : Thread nD τ).loc cc0_scratch0) ↦[slotSet k]{q} f

omit [FloatOps F] in
/-- A slot may be the payload of a duty. -/
instance slotPts_storable (c : Dev nD) (k) (q) (f) : BI.Storable (upEmb : UEmb _ 𝕄) (slotPts (F := F) c k q f) := by unfold slotPts; infer_instance

/-- The shares of slot 0: one for each copy, -/
def part : Fin 3 → PosShare TreeShare := ![fullShare.left.left, fullShare.left.right, fullShare.right.left]
/-- and the one kept. -/
def kept : PosShare TreeShare := fullShare.right.right

omit [FloatOps F] in
/-- Slot 0 held whole is its four shares. -/
theorem shares (c : Dev nD) (f : Buf (Elt F) ((c : Thread nD τ).loc cc0_scratch0)) :
    slotPts c 0 fullShare f = iprop((slotPts c 0 (part 0) f ∗ slotPts c 0 (part 1) f) ∗ slotPts c 0 (part 2) f ∗ slotPts (F := F) c 0 kept f) := by
  have h (q : PosShare TreeShare) : slotPts (F := F) c 0 q f = iprop(slotPts c 0 q.left f ∗ slotPts c 0 q.right f) := by
    unfold slotPts
    have e := pointsTo_share (nD := nD) (τ := τ) (sig := sig) (Ix := Unit) (Val := Elt F) (Name := ℕ) (U := UU) (Lvl := ℕ)
      (ℓ := (c : Thread nD τ).loc cc0_scratch0) (I := slotSet 0) (f := f) (PosShare.mem_left_op_right q)
    exact Entails.antisymm e.1 e.2
  rw [h fullShare, h fullShare.left, h fullShare.right]
  rfl

omit [FloatOps F] in
/-- The scratch array is its four slots. -/
theorem slots_split (c : Dev nD) (f : Buf (Elt F) ((c : Thread nD τ).loc cc0_scratch0)) :
    (((c : Thread nD τ).loc cc0_scratch0) ↦{fullShare} f : sProp 𝕄)
      = iprop(slotPts c 0 fullShare f ∗ slotPts c 1 fullShare f ∗ slotPts c 2 fullShare f ∗ slotPts c 3 fullShare f) := by
  have h := Ring.pointsTo_blocks (nD := nD) (τ := τ) (sig := sig) (Ix := Unit) (Val := Elt F) (Name := ℕ) (U := UU) (Lvl := ℕ)
    (ℓ := (c : Thread nD τ).loc cc0_scratch0) slotSet slot_disjoint slot_cover (q := fullShare) f
  rw [h, bigSep_univ_eq_bigSepL [0, 1, 2, 3] (by decide) (by decide)]
  rfl

omit [FloatOps F] in
/-- Four slots held at contents of their own are the scratch array at some contents. -/
theorem slots_join (c : Dev nD) (f g h e : Buf (Elt F) ((c : Thread nD τ).loc cc0_scratch0)) :
    iprop(slotPts c 0 fullShare f ∗ slotPts c 1 fullShare g ∗ slotPts c 2 fullShare h ∗ slotPts c 3 fullShare e)
      ⊢ (iprop(∃ f', ((c : Thread nD τ).loc cc0_scratch0) ↦{fullShare} f') : sProp 𝕄) := by
  have hj := Ring.pointsTo_blocks_join (nD := nD) (τ := τ) (sig := sig) (Ix := Unit) (Val := Elt F) (Name := ℕ) (U := UU) (Lvl := ℕ)
    (ℓ := (c : Thread nD τ).loc cc0_scratch0) slotSet slot_disjoint slot_cover (q := fullShare) ![f, g, h, e] f
  rw [bigSep_univ_eq_bigSepL [0, 1, 2, 3] (by decide) (by decide)] at hj
  exact hj

/-! ## The schedule -/

/-- What the signal for copy `k` hands device `c`: the slot its copy `k` lands in, on the device it goes to. -/
def barPay (k : Fin 3) (c : Dev nD) : sProp 𝕄 := iprop(∃ f, slotPts (dest k c) (land k) fullShare f)
/-- What the landing of copy `k` on device `c` hands it: the slot, holding the rows of the device the copy came from. -/
def recvPay (k : Fin 3) (c : Dev nD) : sProp 𝕄 := slotPts c (land k) fullShare (spread (rows m ρ (orig k c)))
/-- What the end of device `c`'s copy `k` hands it back: the share of slot 0 the copy read from. -/
def sendPay (k : Fin 3) (c : Dev nD) : sProp 𝕄 := slotPts c 0 (part k) (spread (rows m ρ c))

/-- A number as one of the three copies. -/
abbrev third (n : ℕ) : Fin 3 := ⟨n % 3, Nat.mod_lt _ (by decide)⟩
/-- A receive semaphore's copy, from its number; -/
theorem third_recv (k : Fin 3) : third (8 + k.val - 8) = k := by revert k; decide
/-- a send semaphore's. -/
theorem third_send (k : Fin 3) : third (5 + k.val - 5) = k := by revert k; decide

/-- One round. A barrier cell has the three copies' duties, of one unit each; a send or a receive cell has one duty, of
    a copy's credit. -/
def sched : Rounds.Schedule (GSem nD τ sig) (Fin 3) 𝕄 where
  duties g r := if r = 0 ∧ g.1.2 = .tc then
      (match g.2 with | .reg s => if s = barS then Finset.univ else ∅ | .dma q => if 5 ≤ q.val then {0} else ∅)
    else ∅
  unitless _ := False
  amount g _ _ := match g.2 with | .reg _ => 1 | .dma _ => N
  payload g _ d := match g.2 with
    | .reg _ => barPay d g.1.1
    | .dma q => if 8 ≤ q.val then recvPay m ρ (third (q.val - 8)) g.1.1
        else if 5 ≤ q.val then sendPay m ρ (third (q.val - 5)) g.1.1 else iprop(emp)
  amount_pos g _ _ _ := by
    rcases g with ⟨t, s | q⟩
    · exact Nat.one_pos
    · exact N_pos

/-- All payloads are slots of the scratch array, or nothing. -/
instance sched_storable (g : GSem nD τ sig) (r : ℕ) (d : Fin 3) :
    BI.Storable (upEmb : UEmb _ 𝕄) ((sched (F := F) m ρ).payload g r d) := by
  rcases g with ⟨t, s | q⟩
  · show BI.Storable upEmb (barPay d t.1)
    unfold barPay; infer_instance
  · show BI.Storable upEmb (if 8 ≤ q.val then recvPay m ρ (third (q.val - 8)) t.1
        else if 5 ≤ q.val then sendPay m ρ (third (q.val - 5)) t.1 else iprop(emp))
    unfold recvPay sendPay
    (repeat' split) <;> infer_instance

section Tables
variable (k : Fin 3) (c : Dev nD)

omit [FloatOps F] in
/-- A conjunction over the three copies, written out. -/
theorem bigSep_fin3 (Φ : Fin 3 → sProp 𝕄) : bigSep Finset.univ Φ = iprop(Φ 0 ∗ Φ 1 ∗ Φ 2) :=
  bigSep_univ_eq_bigSepL [0, 1, 2] (by decide) (by decide) Φ

/-- A barrier cell has all three duties in its round, -/
theorem duties_bar : (sched (F := F) m ρ).duties (barCell c) 0 = Finset.univ := by
  dsimp only [sched]; rw [if_pos ⟨rfl, rfl⟩, if_pos rfl]
/-- a send cell one, -/
theorem duties_send : (sched (F := F) m ρ).duties (sendCell k c) 0 = {0} := by
  dsimp only [sched]; rw [if_pos ⟨rfl, rfl⟩, if_pos (Nat.le_add_right 5 _)]
/-- a receive cell one, -/
theorem duties_recv : (sched (F := F) m ρ).duties (recvCell k c) 0 = {0} := by
  dsimp only [sched]; rw [if_pos ⟨rfl, rfl⟩, if_pos (by omega)]
/-- and no cell has any in a later round. -/
theorem duties_later (g : GSem nD τ sig) : ∀ r, 1 ≤ r → (sched (F := F) m ρ).duties g r = ∅ :=
  fun r hr => by dsimp only [sched]; rw [if_neg fun h => by omega]

/-- A signal brings one unit, -/
theorem amount_bar (d : Fin 3) : (sched (F := F) m ρ).amount (barCell c) 0 d = 1 := rfl
/-- the end of a copy its credit, -/
theorem amount_send (d : Fin 3) : (sched (F := F) m ρ).amount (sendCell k c) 0 d = N := rfl
/-- the landing of a copy the same. -/
theorem amount_recv (d : Fin 3) : (sched (F := F) m ρ).amount (recvCell k c) 0 d = N := rfl

/-- A barrier cell's round is over after three units, -/
theorem expect_bar : (sched (F := F) m ρ).expect (barCell c) 0 = 3 := by
  unfold Schedule.expect Schedule.amountOf
  rw [duties_bar, Finset.sum_congr rfl fun d _ => amount_bar m ρ c d, Finset.sum_const, Finset.card_univ, Fintype.card_fin, smul_eq_mul]
/-- a send cell's after a copy's credit, -/
theorem expect_send : (sched (F := F) m ρ).expect (sendCell k c) 0 = N := by
  unfold Schedule.expect Schedule.amountOf; rw [duties_send, Finset.sum_singleton, amount_send]
/-- and so is a receive cell's. -/
theorem expect_recv : (sched (F := F) m ρ).expect (recvCell k c) 0 = N := by
  unfold Schedule.expect Schedule.amountOf; rw [duties_recv, Finset.sum_singleton, amount_recv]

/-- The payloads: a barrier cell's, -/
theorem payload_bar (d : Fin 3) : (sched (F := F) m ρ).payload (barCell c) 0 d = barPay d c := rfl
/-- a send cell's, -/
theorem payload_send (d : Fin 3) : (sched (F := F) m ρ).payload (sendCell k c) 0 d = sendPay m ρ k c := by
  dsimp only [sched]; rw [if_neg (by have := k.isLt; omega), if_pos (by omega), third_send]
/-- a receive cell's. -/
theorem payload_recv (d : Fin 3) : (sched (F := F) m ρ).payload (recvCell k c) 0 d = recvPay m ρ k c := by
  dsimp only [sched]; rw [if_pos (by omega), third_recv]

/-- The whole of a barrier cell's round: the three payloads. -/
theorem rest_bar : bigSep ((sched (F := F) m ρ).duties (barCell c) 0 \ ∅) (fun d => (sched (F := F) m ρ).payload (barCell c) 0 d)
    = iprop(barPay 0 c ∗ barPay 1 c ∗ barPay 2 c) := by
  rw [Finset.sdiff_empty, duties_bar, bigSep_fin3]; rfl
/-- The whole of a send cell's round: its payload. -/
theorem rest_send : bigSep ((sched (F := F) m ρ).duties (sendCell k c) 0 \ ∅) (fun d => (sched (F := F) m ρ).payload (sendCell k c) 0 d) = sendPay m ρ k c := by
  rw [Finset.sdiff_empty, duties_send, bigSep_singleton, payload_send]
/-- The whole of a receive cell's round: its payload. -/
theorem rest_recv : bigSep ((sched (F := F) m ρ).duties (recvCell k c) 0 \ ∅) (fun d => (sched (F := F) m ρ).payload (recvCell k c) 0 d) = recvPay m ρ k c := by
  rw [Finset.sdiff_empty, duties_recv, bigSep_singleton, payload_recv]

end Tables

/-! ## What each device owes, and the levels -/

/-- The credit device `c` owes for copy `k`; -/
abbrev oweR (k : Fin 3) (c : Dev nD) : CellTallies nD τ sig Unit := tallyAt (recvCell k (dest k c)) () N
/-- the unit it owes for signal `k`. -/
abbrev oweB (k : Fin 3) (c : Dev nD) : CellTallies nD τ sig Unit := tallyAt (barCell (orig k c)) () 1

/-! What device `c` owes before each of its six payments: the signals 0, 1, 2, then the copies 0, 1, 2. -/

/-- Before the last copy, -/
def O₅ (c : Dev nD) : CellTallies nD τ sig Unit := 0 + oweR 2 c
/-- before the second, -/
def O₄ (c : Dev nD) : CellTallies nD τ sig Unit := O₅ c + oweR 1 c
/-- before the first; -/
def O₃ (c : Dev nD) : CellTallies nD τ sig Unit := O₄ c + oweR 0 c
/-- before the last signal, -/
def O₂ (c : Dev nD) : CellTallies nD τ sig Unit := O₃ c + oweB 2 c
/-- before the second, -/
def O₁ (c : Dev nD) : CellTallies nD τ sig Unit := O₂ c + oweB 1 c
/-- before the first. -/
def O₀ (c : Dev nD) : CellTallies nD τ sig Unit := O₁ c + oweB 0 c

/-- The tags of a cell: one for each cell of the kernel's cores. -/
def L (g : GSem nD τ sig) : Finset Unit := if g.1.2 = .tc then {()} else ∅
/-- Barrier cells at level 1, receive cells at 2, all others at 0. -/
def lv (g : GSem nD τ sig) (_ : Unit) : ℕ := match g.2 with | .reg _ => 1 | .dma q => if 8 ≤ q.val then 2 else 0

/-- None elsewhere; -/
theorem L_of_ne (g : GSem nD τ sig) (h : g.1.2 ≠ .tc) : L g = ∅ := if_neg h
/-- one there. -/
theorem L_tc (c : Dev nD) (sm : SemLoc sig) : L ((c : Thread nD τ), sm) = {()} := if_pos rfl

/-- What a device owes once its signals are sent, cell by cell. -/
theorem O₃_apply (c : Dev nD) (g : GSem nD τ sig) (u : Unit) :
    O₃ c g u = 0 + (if g = recvCell 2 (dest 2 c) then N else 0) + (if g = recvCell 1 (dest 1 c) then N else 0) + (if g = recvCell 0 (dest 0 c) then N else 0) := by
  unfold O₃ O₄ O₅ oweR
  simp only [Pi.add_apply, Finsupp.add_apply, tallyAt_apply, Pi.zero_apply, Finsupp.zero_apply, and_true]
/-- What a device owes at launch, cell by cell. -/
theorem O₀_apply (c : Dev nD) (g : GSem nD τ sig) (u : Unit) :
    O₀ c g u = O₃ c g u + (if g = barCell (orig 2 c) then 1 else 0) + (if g = barCell (orig 1 c) then 1 else 0) + (if g = barCell (orig 0 c) then 1 else 0) := by
  unfold O₀ O₁ O₂ oweB
  simp only [Pi.add_apply, Finsupp.add_apply, tallyAt_apply, and_true]

/-- Once its signals are sent a device owes at most the three landings; -/
theorem O₃_pos {c : Dev nD} {g : GSem nD τ sig} {u : Unit} (h : 0 < O₃ c g u) : ∃ k, g = recvCell k (dest k c) := by
  by_contra hn
  rw [not_exists] at hn
  rw [O₃_apply, if_neg (hn 0), if_neg (hn 1), if_neg (hn 2)] at h
  exact Nat.lt_irrefl 0 h
/-- at launch it owes these and the three signals. -/
theorem O₀_pos {c : Dev nD} {g : GSem nD τ sig} {u : Unit} (h : 0 < O₀ c g u) : (∃ k, g = recvCell k (dest k c)) ∨ ∃ k, g = barCell (orig k c) := by
  by_cases hb : ∃ k, g = barCell (orig k c)
  · exact Or.inr hb
  · refine Or.inl (O₃_pos (u := u) ?_)
    rw [not_exists] at hb
    have e := O₀_apply c g u
    rw [if_neg (hb 0), if_neg (hb 1), if_neg (hb 2)] at e
    exact Nat.lt_of_lt_of_eq h e

/-- A receive cell's level is 2. -/
theorem lv_recv (k : Fin 3) (c : Dev nD) (u : Unit) : lv (recvCell k c) u = 2 := if_pos (Nat.le_add_right 8 _)

omit [FloatOps F] in
/-- A device may wait on a cell below all that it owes. -/
theorem mayWait_below (c : Dev nD) (sm : SemLoc sig) (O : CellTallies nD τ sig Unit)
    (h : ∀ g u, 0 < O g u → g.1.2 = .tc ∧ lv ((c : Thread nD τ), sm) () < lv g u) :
    (levAts L lv : sProp 𝕄) ⊢ MayWait (c : Thread nD τ) sm () O := by
  refine MayOwe.of_cut (lv ((c : Thread nD τ), sm) ()) (fun p hp => ?_) (fun g u hg => ?_) (fun p hp => ?_) fun g u hg => (h g u hg).2
  · rw [Finset.mem_singleton.mp hp, L_tc]; exact Finset.mem_univ _
  · unfold L; rw [if_pos (h g u hg).1]; exact Finset.mem_univ _
  · rw [Finset.mem_singleton.mp hp]

omit [FloatOps F] in
/-- A staging semaphore, at level 0, may be waited on at launch and when nothing is owed. -/
theorem mayWait_stage (c : Dev nD) (q : DmaSem sig) (hq : q.val < 8) (O : CellTallies nD τ sig Unit) (hO : O = O₀ c ∨ O = 0) :
    (levAts L lv : sProp 𝕄) ⊢ MayWait (c : Thread nD τ) (.dma q) () O := by
  have h0 : lv ((c : Thread nD τ), .dma q) () = 0 := if_neg (Nat.not_le.mpr hq)
  refine mayWait_below c _ O fun g u hg => ?_
  rw [h0]
  rcases hO with rfl | rfl
  · rcases O₀_pos hg with ⟨k, rfl⟩ | ⟨k, rfl⟩
    · exact ⟨rfl, by rw [lv_recv]; exact Nat.two_pos⟩
    · exact ⟨rfl, Nat.one_pos⟩
  · exact absurd hg (Nat.lt_irrefl 0)

omit [FloatOps F] in
/-- At its barrier a device owes the three copies: receive cells, above the barrier's. -/
theorem mayWait_bar (c : Dev nD) : (levAts L lv : sProp 𝕄) ⊢ MayWait (c : Thread nD τ) (.reg barS) () (O₃ c) :=
  mayWait_below c _ _ fun g u hg => by
    obtain ⟨k, rfl⟩ := O₃_pos hg
    exact ⟨rfl, by rw [lv_recv]; exact Nat.lt_succ_self 1⟩

end Cert.Moe

end
-- ==== Proof.Body.lean ====
/-
# One device's run of the kernel

The kernel's body on device `c`, taken one effect at a time in program order, from what the launch gives
the device to what it leaves: the result block holds `outAt`, the staged inputs are as they were, the
scratch array is whole again and every semaphore counter is zero.
-/
module

public import proofs.«01_k».proof.Proof.Exchange

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device starts from and what it leaves -/

/-- What is known of a cell: its invariant, under the name that `K` gives it, and that its round 0 has begun. -/
def record (K : Dev nD × Cell → ℕ) (ck : Dev nD × Cell) : sProp 𝕄 :=
  iprop(cellInv ER (sched m ρ) (K ck) (kcell ck) ∗ reached ER (kcell ck) 0)

/-- What every device knows: this of all cells. -/
def records (K : Dev nD × Cell → ℕ) : sProp 𝕄 := bigSep Finset.univ (record m ρ K)

/-- It is knowledge: it may be used any number of times. -/
instance record_persistent (K : Dev nD × Cell → ℕ) (ck : Dev nD × Cell) : BI.Persistent (record m ρ K ck) := by
  unfold record; infer_instance
/-- So it is for all cells. -/
instance records_persistent (K : Dev nD × Cell → ℕ) : BI.Persistent (records m ρ K) := by unfold records; infer_instance

/-- The invariant of any one cell is known, -/
theorem known (K : Dev nD × Cell → ℕ) (ck : Dev nD × Cell) : records m ρ K ⊢ cellInv ER (sched m ρ) (K ck) (kcell ck) := by
  have h : record m ρ K ck ⊢ cellInv ER (sched m ρ) (K ck) (kcell ck) := by
    unfold record; iintro ⟨H, -⟩; iexact H
  unfold records; exact (bigSep_elim (Finset.mem_univ ck)).trans h
/-- and that its round has begun. -/
theorem begun (K : Dev nD × Cell → ℕ) (ck : Dev nD × Cell) : records m ρ K ⊢ reached ER (kcell ck) 0 := by
  have h : record m ρ K ck ⊢ reached ER (kcell ck) 0 := by
    unfold record; iintro ⟨-, H⟩; iexact H
  unfold records; exact (bigSep_elim (Finset.mem_univ ck)).trans h

/-- The tokens device `c` pays with: its three signals', its three sends', its three copies' landings'. -/
def payToks (c : Dev nD) : sProp 𝕄 :=
  iprop((bigSep Finset.univ fun k : Fin 3 => dutyTok ER (barCell (orig k c)) 0 k)
    ∗ (bigSep Finset.univ fun k : Fin 3 => dutyTok ER (sendCell k c) 0 0)
    ∗ bigSep Finset.univ fun k : Fin 3 => dutyTok ER (recvCell k (dest k c)) 0 0)

/-- Device `c`'s part of the protocol: what every device knows, its place in each of its seven cells, its tokens. -/
def ghost (K : Dev nD × Cell → ℕ) (c : Dev nD) : sProp 𝕄 :=
  iprop(records m ρ K ∗ (bigSep Finset.univ fun i : Cell => atPos ER (kcell (c, i)) 0 ∅ 0) ∗ payToks c)

/-- The credits device `c` holds from the launch: three units on its barrier, a copy's credit on each receive cell. -/
def credits (c : Dev nD) : sProp 𝕄 :=
  iprop(cred (tallyAt (barCell c) () 3) ∗ bigSep Finset.univ fun k : Fin 3 => cred (tallyAt (recvCell k c) () N))

/-- What the launch leaves device `c` with. -/
def start (c : Dev nD) : sProp 𝕄 := iprop((∃ K, ghost m ρ K c) ∗ credits c ∗ levAts L lv)

/-- The scratch array whole, at some contents. -/
def scratch (c : Dev nD) : sProp 𝕄 := iprop(∃ f, ((c : Thread nD τ).loc cc0_scratch0) ↦{fullShare} f)

/-- Before the grid point: that, and the scratch array. -/
def Φ₀ (c : Dev nD) : sProp 𝕄 := iprop(start m ρ c ∗ scratch c)
/-- After it: the scratch array, and the device's seven counters at zero. -/
def Φ₁ (c : Dev nD) : sProp 𝕄 := iprop(scratch c ∗ bigSep Finset.univ fun i : Cell => semVal (kcell (c, i)) 0)

/-- What the one grid point does with each window. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => ustg m ρ c
    | ⟨2, _⟩ => rstg m ρ c
    | ⟨3, _⟩ => wstg m ρ c
    | ⟨4, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-- The program has no loop to measure. -/
abbrev 𝒱₀ : Variants := Variants.none

/-- Device `c` owes `O`, whatever it has waited on. -/
def owing (c : Dev nD) (O : CellTallies nD τ sig Unit) : sProp 𝕄 := iprop(∃ W, owes (c : Thread nD τ) O W)

/-- A staging buffer held whole. -/
abbrev held (c : Dev nD) (b : Ref sig .tc) (X : b.ty.Contents (Elt F)) : sProp 𝕄 := ((c : Thread nD τ).loc b) ↦{fullShare} X

/-- The five staging buffers, the inputs' at the staged blocks and the result's at `f`. -/
def buffers (c : Dev nD) (f : (cc0_stg4_0 : Ref sig .tc).ty.Contents (Elt F)) : sProp 𝕄 :=
  iprop(held c cc0_stg0_0 (xstg m ρ c) ∗ held c cc0_stg1_0 (ustg m ρ c) ∗ held c cc0_stg2_0 (rstg m ρ c)
    ∗ held c cc0_stg3_0 (wstg m ρ c) ∗ held c cc0_stg4_0 f)

/-- The first element of a two-dimensional buffer. -/
theorem origin : (![0, 0] : Fin 2 → ℕ) = fun _ => 0 := by decide

/-- The kernel loads all the tokens at once, -/
theorem load_tokens (f : Vec F S512x256 .f32) :
    (Memref.whole cc0_stg0_0).view.readAt (Elt F) (Rect.unit (s := S512x256) ![0, 0] S512x256.size inb_S512x256_S512x256_0_0).toLoadRect f = f :=
  Memref.readAt_unit_zero (Elt F) cc0_stg0_0 origin _ f
/-- and all the routes, -/
theorem load_routes (f : Vec F S512x1 .i32) :
    (Memref.whole cc0_stg2_0).view.readAt (Elt F) (Rect.unit (s := S512x1) ![0, 0] S512x1.size inb_S512x1_S512x1_0_0).toLoadRect f = f :=
  Memref.readAt_unit_zero (Elt F) cc0_stg2_0 origin _ f
/-- and stores all of the result. -/
theorem store_result (f w : Vec F S512x512 .f32) :
    ((Memref.whole cc0_stg4_0).access (Rect.unit (s := S512x512) ![0, 0] S512x512.size inb_S512x512_S512x512_0_0) : View sig .tc _ _ _).write
      (Elt F) f w Finset.univ = w :=
  Memref.write_access_unit_zero_univ (Elt F) cc0_stg4_0 origin _ f w

/-- Every slot is worth the same credit. -/
theorem slot_credit (k : Fin 4) : (slotM k).view.dmaCredit = N := by fin_cases k <;> rfl

/-! ## The signals, the copies and the waits, for any of the three -/

section Body

variable (K : Dev nD × Cell → ℕ)

/-- Signal `k`, owing `O` besides it: device `c` lends its slot `land k`. -/
theorem wp_lend (k : Fin 3) (c n : Dev nD) (hn : n = orig k c) {a : ℕ} (ha : a = 1)
    {α : Type} {Q : α → sProp 𝕄} {kk : PUnit → Prog (TpuEff nD τ sig (Elt F) Λ₀ .tc) α}
    (f : Buf (Elt F) ((c : Thread nD τ).loc cc0_scratch0)) (O : CellTallies nD τ sig Unit) :
    iprop(records m ρ K ∗ owing c (O + oweB k c) ∗ dutyTok ER (barCell (orig k c)) 0 k ∗ slotPts c (land k) fullShare f)
      ⊢ iprop((owing c O -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (Dev.tc n : Thread nD τ) barS a) kk) Q) := by
  subst hn ha
  unfold owing
  iintro ⟨#HK, ⟨%W, HO⟩, Ht, Hf⟩ Hk
  iapply (Rounds.wp_signal 𝒱₀ ER (sched m ρ) (c : Thread nD τ) none (dst := (orig k c : Thread nD τ)) (κ := K (orig k c, none))
      (d := k) (by rw [duties_bar]; exact Finset.mem_univ _) (amount_bar m ρ (orig k c) k) () O rfl) $$ [HO Ht Hf]
  · isplitr; · iapply (known m ρ K (orig k c, none)); iexact HK
    isplitl [HO]; · iexact HO
    isplitl [Ht]; · iexact Ht
    isplitl [Hf]
    · rw [payload_bar]; unfold barPay; rw [dest_orig]
      iexists f; iexact Hf
    iapply (begun m ρ K (orig k c, none)); iexact HK
  iintro HO
  iapply Hk
  iexists W; iexact HO

/-- Copy `k`, owing `O` besides it: a share of slot 0 and the lent slot go in; the credit on the send cell comes out. -/
theorem wp_copy (k : Fin 3) (c n : Dev nD) (hn : n = dest k c) {src dst : Memref sig .tc .vmem S112x512 .bf16}
    (hs : src = slotM 0) (hd : dst = slotM (land k)) {sS sR : DmaSem sig} (hS : sS = sendS k) (hR : sR = recvS k)
    {hsc : dst.view.ref.isScScratch = false} {hsrc : src.view.WordExact} {hdst : dst.view.WordExact}
    {hsem : DmaTarget.Typed .vmem (.dma sR) (.remote (Dev.tc n : Thread nD τ) dst (.dma sS) hsc)}
    {α : Type} {Q : α → sProp 𝕄} {kk : PUnit → Prog (TpuEff nD τ sig (Elt F) Λ₀ .tc) α}
    (f : Buf (Elt F) ((dest k c : Thread nD τ).loc cc0_scratch0)) (O : CellTallies nD τ sig Unit) :
    iprop(records m ρ K ∗ owing c (O + oweR k c) ∗ slotPts c 0 (part k) (spread (rows m ρ c)) ∗ slotPts (dest k c) (land k) fullShare f
        ∗ dutyTok ER (sendCell k c) 0 0 ∗ dutyTok ER (recvCell k (dest k c)) 0 0)
      ⊢ iprop(((cred (tallyAt (sendCell k c) () N) ∗ owing c O) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma src (.remote (Dev.tc n : Thread nD τ) dst (.dma sS) hsc) (.dma sR) hsrc hdst hsem) kk) Q) := by
  subst hn hs hd hS hR
  have e1 : (0 : Fin 3) ∈ (sched m ρ).duties (sendCell k c) 0 := by rw [duties_send]; exact Finset.mem_singleton_self _
  have e2 : (0 : Fin 3) ∈ (sched m ρ).duties (recvCell k (dest k c)) 0 := by rw [duties_recv]; exact Finset.mem_singleton_self _
  have p1 : slotPts c 0 (part k) (spread (rows m ρ c)) ⊢ (sched m ρ).payload (sendCell k c) 0 0 := by
    rw [payload_send]; exact BI.Entails.refl _
  have p2 : (((dest k c : Thread nD τ).loc cc0_scratch0) ↦[slotSet (land k)]{fullShare}
        ((slotM (land k)).view.write (Elt F) f ((slotM 0).view.read (Elt F) (spread (rows m ρ c))) Finset.univ) : sProp 𝕄)
      ⊢ (sched m ρ).payload (recvCell k (dest k c)) 0 0 := by
    rw [payload_recv]; unfold recvPay slotPts; rw [orig_dest]
    exact Entails.of_eq (pointsTo_congr fun i hi => copy_slot 0 (land k) (rows m ρ c) f i hi)
  unfold owing slotPts
  iintro ⟨#HK, ⟨%W, HO⟩, Hs, Hf, HtS, HtR⟩ Hk
  iapply (Rounds.wp_send_pointsTo 𝒱₀ ER (sched m ρ) (c : Thread nD τ) none (κ₁ := K (c, some (.inl k))) (κ₂ := K (dest k c, some (.inr k)))
    (src := slotM 0) (dst := slotM (land k)) (c' := (dest k c : Thread nD τ)) (sS := .dma (sendS k)) (sem := .dma (recvS k)) (q := part k)
    (fs := spread (rows m ρ c)) (fd := f) (r₁ := 0) (r₂ := 0) (d₁ := 0) (d₂ := 0)
    e1 e2 () () N (slot_credit (land k)) (amount_send m ρ k c 0) (amount_recv m ρ k (dest k c) 0) O rfl (W := W) p1 p2)
    $$ [HO Hs Hf HtS HtR]
  · isplitr; · iapply (known m ρ K (c, some (.inl k))); iexact HK
    isplitr; · iapply (known m ρ K (dest k c, some (.inr k))); iexact HK
    isplitl [Hs]; · iexact Hs
    isplitl [Hf]; · iexact Hf
    isplitl [HO]; · iexact HO
    isplitl [HtS]; · iexact HtS
    isplitr; · iapply (begun m ρ K (c, some (.inl k))); iexact HK
    isplitl [HtR]; · iexact HtR
    iapply (begun m ρ K (dest k c, some (.inr k))); iexact HK
  iintro ⟨Hc, HO⟩
  iapply Hk
  isplitl [Hc]; · iexact Hc
  iexists W; iexact HO

/-- A wait for the whole round of one of the device's cells: the credit goes in, the round's payloads come out. -/
theorem wp_round (c : Dev nD) (i : Cell) {w : TpuEff nD τ sig (Elt F) Λ₀ .tc PUnit} {n : ℕ}
    (hw : ∀ P : PUnit → sProp 𝕄, wpE (defs₀ (F := F)) 𝒱₀ (c : Thread nD τ) none Set.univ w P = waitSpec (c : Thread nD τ) Set.univ (csem i) n P)
    (hn : (sched m ρ).expect (kcell (c, i)) 0 = n) {P : sProp 𝕄}
    (hP : bigSep ((sched m ρ).duties (kcell (c, i)) 0 \ ∅) (fun d => (sched m ρ).payload (kcell (c, i)) 0 d) = P)
    (O : CellTallies nD τ sig Unit) (hO : (levAts L lv : sProp 𝕄) ⊢ MayWait (c : Thread nD τ) (csem i) () O)
    {α : Type} {Q : α → sProp 𝕄} {kk : PUnit → Prog (TpuEff nD τ sig (Elt F) Λ₀ .tc) α} :
    iprop(records m ρ K ∗ levAts L lv ∗ owing c O ∗ cred (tallyAt (kcell (c, i)) () n) ∗ atPos ER (kcell (c, i)) 0 ∅ 0)
      ⊢ iprop(((owing c O ∗ atPos ER (kcell (c, i)) (0 + 1) ∅ 0 ∗ P) -∗ wp frame (wpE (defs₀ (F := F)) 𝒱₀ (c : Thread nD τ) none) Set.univ (kk ⟨⟩) Q)
          -∗ wp frame (wpE (defs₀ (F := F)) 𝒱₀ (c : Thread nD τ) none) Set.univ (.op w kk) Q) := by
  unfold owing
  iintro ⟨#HK, #Hlev, ⟨%W, HO⟩, Hc, Hat⟩ Hk
  iapply (Rounds.wp_wait_rest_token 𝒱₀ ER (sched m ρ) (c : Thread nD τ) none (κ := K (c, i)) hw (Set.mem_univ _) ()
      (O := O) (W := W) (R := 0) (m := 0) (T := ∅) ((Nat.zero_add n).trans hn.symm)) $$ [HO Hc Hat]
  · isplitr; · iapply (known m ρ K (c, i)); iexact HK
    isplitl [Hc]; · iexact Hc
    isplitl [HO]; · iexact HO
    isplitr; · iapply hO; iexact Hlev
    iexact Hat
  iintro ⟨HO, Hat, -, Hpay⟩
  iapply Hk
  isplitl [HO]; · iexists _; iexact HO
  isplitl [Hat]; · iexact Hat
  iapply (Entails.of_eq hP); iexact Hpay

omit [FloatOps F] in
/-- Who owes nothing may wait on anything. -/
theorem mayWait_free (c : Dev nD) (sm : SemLoc sig) : (levAts L lv : sProp 𝕄) ⊢ MayWait (c : Thread nD τ) sm () 0 :=
  mayWait_below c sm 0 fun _ _ h => absurd h (Nat.lt_irrefl 0)

/-- Waiting for the end of copy `k`: the share of slot 0 comes back. -/
theorem wp_sent (k : Fin 3) (c : Dev nD) {src dst : Memref sig .tc .vmem S112x512 .bf16} {hsrc : src.view.WordExact} {hdst : dst.view.WordExact}
    (hN : dst.view.dmaCredit = N) {q : DmaSem sig} (hq : q = sendS k)
    {α : Type} {Q : α → sProp 𝕄} {kk : PUnit → Prog (TpuEff nD τ sig (Elt F) Λ₀ .tc) α} :
    iprop(records m ρ K ∗ levAts L lv ∗ owing c 0 ∗ cred (tallyAt (sendCell k c) () N) ∗ atPos ER (sendCell k c) 0 ∅ 0)
      ⊢ iprop(((owing c 0 ∗ atPos ER (sendCell k c) (0 + 1) ∅ 0 ∗ sendPay m ρ k c) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 q src dst hsrc hdst) kk) Q) := by
  subst hq
  exact wp_round m ρ K c (some (.inl k)) (fun P => (wpE_waitDma2_eq 𝒱₀ (c : Thread nD τ) none Set.univ P).trans (by rw [hN]))
    (expect_send m ρ k c) (rest_send m ρ k c) 0 (mayWait_free c _)

/-- Waiting for the landing of copy `k`: the slot comes, filled. -/
theorem wp_landed (k : Fin 3) (c : Dev nD) {src dst : Memref sig .tc .vmem S112x512 .bf16} {hsrc : src.view.WordExact} {hdst : dst.view.WordExact}
    (hN : dst.view.dmaCredit = N) {q : DmaSem sig} (hq : q = recvS k)
    {α : Type} {Q : α → sProp 𝕄} {kk : PUnit → Prog (TpuEff nD τ sig (Elt F) Λ₀ .tc) α} :
    iprop(records m ρ K ∗ levAts L lv ∗ owing c 0 ∗ cred (tallyAt (recvCell k c) () N) ∗ atPos ER (recvCell k c) 0 ∅ 0)
      ⊢ iprop(((owing c 0 ∗ atPos ER (recvCell k c) (0 + 1) ∅ 0 ∗ recvPay m ρ k c) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 q src dst hsrc hdst) kk) Q) := by
  subst hq
  exact wp_round m ρ K c (some (.inr k)) (fun P => (wpE_waitDma2_eq 𝒱₀ (c : Thread nD τ) none Set.univ P).trans (by rw [hN]))
    (expect_recv m ρ k c) (rest_recv m ρ k c) 0 (mayWait_free c _)

omit [FloatOps F] in
/-- A conjunction over a device's seven cells, written out. -/
theorem bigSep_cell (Φ : Cell → sProp 𝕄) : bigSep Finset.univ Φ
    = iprop(Φ none ∗ Φ (some (.inl 0)) ∗ Φ (some (.inl 1)) ∗ Φ (some (.inl 2)) ∗ Φ (some (.inr 0)) ∗ Φ (some (.inr 1)) ∗ Φ (some (.inr 2))) :=
  bigSep_univ_eq_bigSepL ([none, some (.inl 0), some (.inl 1), some (.inl 2), some (.inr 0), some (.inr 1), some (.inr 2)] : List Cell) (by decide) (by decide) Φ

/-- When the rounds of a device's cells are over, its counters are at zero. -/
theorem close_cells (c : Dev nD) :
    iprop(records m ρ K ∗ bigSep Finset.univ fun i : Cell => atPos ER (kcell (c, i)) (0 + 1) ∅ 0)
      ⊢ (|={Set.univ}=> bigSep Finset.univ fun i : Cell => semVal (kcell (c, i)) 0 : sProp 𝕄) := by
  refine (sep_mono_left (BI.bigSep_of_persistent (Finset.univ : Finset Cell) (records m ρ K))).trans ?_
  rw [← bigSep_sep']
  refine (bigSep_mono fun i _ => ?_).trans (bigSep_fupd _ _)
  exact (sep_mono_left (known m ρ K (c, i))).trans
    (Rounds.cell_close ER (sched m ρ) (Set.mem_univ (K (c, i))) (fun h => h) (R := 0 + 1) (duties_later m ρ (kcell (c, i))))

/-- The four slots, slot 0 in its shares, are the scratch array. -/
theorem gather_slots (c : Dev nD) :
    iprop(slotPts c 0 kept (spread (rows m ρ c)) ∗ sendPay m ρ 0 c ∗ sendPay m ρ 1 c ∗ sendPay m ρ 2 c
      ∗ recvPay m ρ 0 c ∗ recvPay m ρ 1 c ∗ recvPay m ρ 2 c) ⊢ scratch (F := F) c := by
  unfold sendPay recvPay scratch
  iintro ⟨Hk, Hp0, Hp1, Hp2, Hq0, Hq1, Hq2⟩
  iapply (slots_join c (spread (rows m ρ c)) (spread (rows m ρ (orig 1 c))) (spread (rows m ρ (orig 2 c))) (spread (rows m ρ (orig 0 c))))
  isplitl [Hk Hp0 Hp1 Hp2]
  · rw [shares]
    isplitl [Hp0 Hp1]
    · isplitl [Hp0] <;> iassumption
    isplitl [Hp2] <;> iassumption
  isplitl [Hq1]; · iexact Hq1
  isplitl [Hq2]; · iexact Hq2
  iexact Hq0

set_option maxHeartbeats 3200000 in
/-- The body's run on device `c`, effect by effect. -/
theorem run_body (c : Dev nD) (f₀ : (cc0_stg4_0 : Ref sig .tc).ty.Contents (Elt F)) (Q : PUnit → sProp 𝕄) :
    iprop((ghost m ρ K c ∗ credits c ∗ levAts L lv ∗ scratch c) ∗ owing c (O₀ c) ∗ buffers m ρ c f₀
        ∗ ((Φ₁ c ∗ owing c 0 ∗ buffers m ρ c (outAt m ρ c)) -∗ Q ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _)
            (Memref.whole cc0_scratch0) (Memref.isWhole_whole _) cc0_scratch1 cc0_scratch2) Q := by
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton]
  unfold k0_part1_skel k0_part2_skel k0_part3_skel k0_part4_skel k0_part5_skel k0_part6_skel k0_part7_skel
  simp only [semSignalWord, semWaitWord, Prog.lift, Prog.bind_op, Prog.bind_ret, Prog.pure_eq_ret, wp_deviceId]
  unfold ghost payToks credits scratch buffers
  simp only [bigSep_cell, bigSep_fin3]
  iintro ⟨⟨⟨#HK, ⟨HaB, HaS0, HaS1, HaS2, HaR0, HaR1, HaR2⟩, ⟨HtB0, HtB1, HtB2⟩, ⟨HtS0, HtS1, HtS2⟩, HtR0, HtR1, HtR2⟩,
      ⟨HcB, HcR0, HcR1, HcR2⟩, #Hlev, ⟨%f0, Hscr⟩⟩, HO, ⟨Hx, Hu, Hr, Hw, Hout⟩, Hk⟩
  ihave Hsl := (Entails.of_eq (slots_split c f0)) $$ Hscr
  icases Hsl with ⟨Hs0, Hs1, Hs2, Hs3⟩
  -- the three signals: slots 3, 1 and 2 are lent
  iapply (wp_lend m ρ K 0 c _ (dev1_eq c) (by decide) f0 (O₁ c)) $$ [HO HtB0 Hs3]
  · isplitr; · iexact HK
    isplitl [HO]; · iexact HO
    isplitl [HtB0]; · iexact HtB0
    iexact Hs3
  iintro HO
  iapply (wp_lend m ρ K 1 c _ (dev2_eq c) (by decide) f0 (O₂ c)) $$ [HO HtB1 Hs1]
  · isplitr; · iexact HK
    isplitl [HO]; · iexact HO
    isplitl [HtB1]; · iexact HtB1
    iexact Hs1
  iintro HO
  iapply (wp_lend m ρ K 2 c _ (dev3_eq c) (by decide) f0 (O₃ c)) $$ [HO HtB2 Hs2]
  · isplitr; · iexact HK
    isplitl [HO]; · iexact HO
    isplitl [HtB2]; · iexact HtB2
    iexact Hs2
  iintro HO
  -- the loads of the routes, the rows and the weights; the two stores into slot 0
  iapply (wp_load 𝒱₀ (c : Thread nD τ) none Set.univ (m := Memref.whole cc0_stg2_0) (Finset.subset_univ _)) $$ Hr; iintro Hr
  rw [load_routes]
  iapply (wp_load 𝒱₀ (c : Thread nD τ) none Set.univ (m := Memref.whole cc0_stg0_0) (Finset.subset_univ _)) $$ Hx; iintro Hx
  rw [load_tokens]
  iapply (wp_load 𝒱₀ (c : Thread nD τ) none Set.univ (m := Memref.whole cc0_stg3_0) (Finset.subset_univ _)) $$ Hw; iintro Hw
  ihave Hs0 := (Entails.of_eq (show slotPts c 0 fullShare f0 = _ from by unfold slotPts; rfl)) $$ Hs0
  iapply (wp_load 𝒱₀ (c : Thread nD τ) none Set.univ (m := scrM) up_subset) $$ Hs0; iintro Hs0
  iapply (wp_store 𝒱₀ (c : Thread nD τ) none Set.univ (m := scrM) (r := upR) (Mk := Finset.univ) up_access) $$ Hs0; iintro Hs0
  iapply (wp_load 𝒱₀ (c : Thread nD τ) none Set.univ (m := Memref.whole cc0_stg3_0) (Finset.subset_univ _)) $$ Hw; iintro Hw
  iapply (wp_load 𝒱₀ (c : Thread nD τ) none Set.univ (m := scrM) down_subset) $$ Hs0; iintro Hs0
  iapply (wp_store 𝒱₀ (c : Thread nD τ) none Set.univ (m := scrM) (r := downR) (Mk := Finset.univ) down_access) $$ Hs0; iintro Hs0
  ihave Hs0 := (Entails.of_eq (show _ = slotPts c 0 fullShare (spread (rows m ρ c)) from by
    unfold slotPts rows rowsOf
    exact pointsTo_congr fun i hi => stores_slot _ _ f0 i hi)) $$ Hs0
  ihave Hs0 := (Entails.of_eq (shares c (spread (rows m ρ c)))) $$ Hs0
  icases Hs0 with ⟨⟨Hp0, Hp1⟩, Hp2, Hkept⟩
  -- the wait for three on the device's own barrier, owing the three landings: three devices' slots come
  iapply (wp_round m ρ K c none (wpE_semWait_eq 𝒱₀ (c : Thread nD τ) none Set.univ) (expect_bar m ρ c) (rest_bar m ρ c) (O₃ c) (mayWait_bar c))
    $$ [HcB HO HaB]
  · isplitr; · iexact HK
    isplitr; · iexact Hlev
    isplitl [HO]; · iexact HO
    isplitl [HcB] <;> iassumption
  unfold barPay
  iintro ⟨HO, HaB, ⟨%h0, Hl0⟩, ⟨%h1, Hl1⟩, ⟨%h2, Hl2⟩⟩
  -- the three copies
  iapply (wp_copy m ρ K 0 c _ (dev4_eq c) rfl rfl rfl rfl h0 (O₄ c)) $$ [Hp0 Hl0 HO HtS0 HtR0]
  · isplitr; · iexact HK
    isplitl [HO]; · iexact HO
    isplitl [Hp0]; · iexact Hp0
    isplitl [Hl0]; · iexact Hl0
    isplitl [HtS0] <;> iassumption
  iintro ⟨HcS0, HO⟩
  iapply (wp_copy m ρ K 1 c _ (dev5_eq c) rfl rfl rfl rfl h1 (O₅ c)) $$ [Hp1 Hl1 HO HtS1 HtR1]
  · isplitr; · iexact HK
    isplitl [HO]; · iexact HO
    isplitl [Hp1]; · iexact Hp1
    isplitl [Hl1]; · iexact Hl1
    isplitl [HtS1] <;> iassumption
  iintro ⟨HcS1, HO⟩
  iapply (wp_copy m ρ K 2 c _ (dev6_eq c) rfl rfl rfl rfl h2 0) $$ [Hp2 Hl2 HO HtS2 HtR2]
  · isplitr; · iexact HK
    isplitl [HO]; · iexact HO
    isplitl [Hp2]; · iexact Hp2
    isplitl [Hl2]; · iexact Hl2
    isplitl [HtS2] <;> iassumption
  iintro ⟨HcS2, HO⟩
  -- the four slots are read, each as it is there
  unfold slotPts
  iapply (wp_load 𝒱₀ (c : Thread nD τ) none Set.univ (m := scrM) (slot_subset 0)) $$ Hkept; iintro Hkept
  iapply (wp_landed m ρ K 0 c (slot_credit 3) rfl) $$ [HcR0 HO HaR0]
  · isplitr; · iexact HK
    isplitr; · iexact Hlev
    isplitl [HO]; · iexact HO
    isplitl [HcR0] <;> iassumption
  iintro ⟨HO, HaR0, Hq0⟩
  ihave Hq0 := (Entails.of_eq (show recvPay m ρ 0 c = iprop(((c : Thread nD τ).loc cc0_scratch0) ↦[slotSet 3]{fullShare} spread (rows m ρ (orig 0 c))) from rfl)) $$ Hq0
  iapply (wp_load 𝒱₀ (c : Thread nD τ) none Set.univ (m := scrM) (slot_subset 3)) $$ Hq0; iintro Hq0
  iapply (wp_landed m ρ K 1 c (slot_credit 1) rfl) $$ [HcR1 HO HaR1]
  · isplitr; · iexact HK
    isplitr; · iexact Hlev
    isplitl [HO]; · iexact HO
    isplitl [HcR1] <;> iassumption
  iintro ⟨HO, HaR1, Hq1⟩
  ihave Hq1 := (Entails.of_eq (show recvPay m ρ 1 c = iprop(((c : Thread nD τ).loc cc0_scratch0) ↦[slotSet 1]{fullShare} spread (rows m ρ (orig 1 c))) from rfl)) $$ Hq1
  iapply (wp_load 𝒱₀ (c : Thread nD τ) none Set.univ (m := scrM) (slot_subset 1)) $$ Hq1; iintro Hq1
  iapply (wp_landed m ρ K 2 c (slot_credit 2) rfl) $$ [HcR2 HO HaR2]
  · isplitr; · iexact HK
    isplitr; · iexact Hlev
    isplitl [HO]; · iexact HO
    isplitl [HcR2] <;> iassumption
  iintro ⟨HO, HaR2, Hq2⟩
  ihave Hq2 := (Entails.of_eq (show recvPay m ρ 2 c = iprop(((c : Thread nD τ).loc cc0_scratch0) ↦[slotSet 2]{fullShare} spread (rows m ρ (orig 2 c))) from rfl)) $$ Hq2
  iapply (wp_load 𝒱₀ (c : Thread nD τ) none Set.univ (m := scrM) (slot_subset 2)) $$ Hq2; iintro Hq2
  -- the result is written
  iapply (wp_load 𝒱₀ (c : Thread nD τ) none Set.univ (m := Memref.whole cc0_stg4_0) (Finset.subset_univ _)) $$ Hout; iintro Hout
  iapply (wp_store 𝒱₀ (c : Thread nD τ) none Set.univ (m := Memref.whole cc0_stg4_0)
    (r := Rect.unit (s := S512x512) ![0, 0] S512x512.size inb_S512x512_S512x512_0_0) (Mk := Finset.univ) (Finset.subset_univ _)) $$ Hout; iintro Hout
  rw [store_result, read_slot, read_slot, read_slot, read_slot]
  -- the copies' ends: the shares of slot 0 come back
  iapply (wp_sent m ρ K 0 c (slot_credit 0) rfl) $$ [HcS0 HO HaS0]
  · isplitr; · iexact HK
    isplitr; · iexact Hlev
    isplitl [HO]; · iexact HO
    isplitl [HcS0] <;> iassumption
  iintro ⟨HO, HaS0, Hp0⟩
  iapply (wp_sent m ρ K 1 c (slot_credit 0) rfl) $$ [HcS1 HO HaS1]
  · isplitr; · iexact HK
    isplitr; · iexact Hlev
    isplitl [HO]; · iexact HO
    isplitl [HcS1] <;> iassumption
  iintro ⟨HO, HaS1, Hp1⟩
  iapply (wp_sent m ρ K 2 c (slot_credit 0) rfl) $$ [HcS2 HO HaS2]
  · isplitr; · iexact HK
    isplitr; · iexact Hlev
    isplitl [HO]; · iexact HO
    isplitl [HcS2] <;> iassumption
  iintro ⟨HO, HaS2, Hp2⟩
  -- the seven cells close
  imod (close_cells m ρ K c) $$ [HaB HaS0 HaS1 HaS2 HaR0 HaR1 HaR2] with Hz
  · isplitr; · iexact HK
    rw [bigSep_cell]
    isplitl [HaB]; · iexact HaB
    isplitl [HaS0]; · iexact HaS0
    isplitl [HaS1]; · iexact HaS1
    isplitl [HaS2]; · iexact HaS2
    isplitl [HaR0]; · iexact HaR0
    isplitl [HaR1] <;> iassumption
  rw [wp_ret]; imodintro
  iapply Hk
  unfold Φ₁
  isplitl [Hkept Hp0 Hp1 Hp2 Hq0 Hq1 Hq2 Hz]
  · isplitr [Hz]
    · iapply (gather_slots m ρ c)
      unfold sendPay recvPay slotPts
      isplitl [Hkept]; · iexact Hkept
      isplitl [Hp0]; · iexact Hp0
      isplitl [Hp1]; · iexact Hp1
      isplitl [Hp2]; · iexact Hp2
      isplitl [Hq0]; · iexact Hq0
      isplitl [Hq1]; · iexact Hq1
      iexact Hq2
    · iexact Hz
  isplitl [HO]; · iexact HO
  isplitl [Hx]; · iexact Hx
  isplitl [Hu]; · iexact Hu
  isplitl [Hr]; · iexact Hr
  isplitl [Hw]; · iexact Hw
  iexact Hout

end Body

/-- At the grid point every input's buffer holds the block it stages. -/
theorem staged (c : Dev nD) (d0 d1 d2 d3) :
    (dats m ρ 0 c).before (0 : Fin 5) t0_0 d0 = xstg m ρ c ∧ (dats m ρ 0 c).before (1 : Fin 5) t0_0 d1 = ustg m ρ c
      ∧ (dats m ρ 0 c).before (2 : Fin 5) t0_0 d2 = rstg m ρ c ∧ (dats m ρ 0 c).before (3 : Fin 5) t0_0 d3 = wstg m ρ c :=
  ⟨if_pos (fetch0_0 t0_0), if_pos (fetch0_1 t0_0), if_pos (fetch0_2 t0_0), if_pos (fetch0_3 t0_0)⟩

set_option maxRecDepth 4000 in
/-- What the pipeline asks of the body on device `c`. -/
theorem body_obligation (c : Dev nD) : BodyObligation (dats (F := F) m ρ 0 c) (defs₀ (F := F)) 𝒱₀ () Set.univ := fun t => by
  obtain rfl := fin_N0 t
  rw [bigSep_W0, bigSep_W0]
  simp only [owns_whole]
  show iprop(Φ₀ m ρ c ∗ (dats m ρ 0 c).owesAt () t0_0.castSucc
      ∗ (∃ d, held c cc0_stg0_0 ((dats m ρ 0 c).before (0 : Fin 5) t0_0 d)) ∗ (∃ d, held c cc0_stg1_0 ((dats m ρ 0 c).before (1 : Fin 5) t0_0 d))
      ∗ (∃ d, held c cc0_stg2_0 ((dats m ρ 0 c).before (2 : Fin 5) t0_0 d)) ∗ (∃ d, held c cc0_stg3_0 ((dats m ρ 0 c).before (3 : Fin 5) t0_0 d))
      ∗ ∃ d, held c cc0_stg4_0 ((dats m ρ 0 c).before (4 : Fin 5) t0_0 d))
    ⊢ wp frame (wpE (defs₀ (F := F)) 𝒱₀ c none) Set.univ _
        fun _ => iprop(Φ₁ c ∗ (dats m ρ 0 c).owesAt () t0_0.succ ∗ buffers m ρ c (outAt m ρ c))
  unfold Φ₀ start Dat.owesAt Pipeline.owesWithin
  iintro ⟨⟨⟨⟨%K, Hg⟩, Hcr, Hlev⟩, Hscr⟩, ⟨%W, -, HO⟩, ⟨%d0, Hx⟩, ⟨%d1, Hu⟩, ⟨%d2, Hr⟩, ⟨%d3, Hw⟩, ⟨%d4, Hout⟩⟩
  obtain ⟨e0, e1, e2, e3⟩ := staged m ρ c d0 d1 d2 d3
  rw [e0, e1, e2, e3]
  iapply (run_body m ρ K c ((dats m ρ 0 c).before (4 : Fin 5) t0_0 d4))
  isplitl [Hg Hcr Hlev Hscr]
  · isplitl [Hg]; · iexact Hg
    isplitl [Hcr]; · iexact Hcr
    isplitl [Hlev] <;> iassumption
  isplitl [HO]
  · unfold owing; iexists W; iexact HO
  isplitl [Hx Hu Hr Hw Hout]
  · unfold buffers
    isplitl [Hx]; · iexact Hx
    isplitl [Hu]; · iexact Hu
    isplitl [Hr]; · iexact Hr
    isplitl [Hw] <;> iassumption
  unfold owing
  iintro ⟨HΦ, ⟨%W', HO⟩, Hb⟩
  isplitl [HΦ]; · iexact HΦ
  isplitl [HO]
  · iexists W'
    isplitr
    · ipureintro; exact fun _ _ => Or.inl trivial
    iexact HO
  iexact Hb

end Cert.Moe

end
-- ==== Proof.Launch.lean ====
/-
# The run of the whole program

The launch deals every device its part of the protocol: its seven cells with their invariants, its place
in each of them, the tokens of what it will pay and the credits of what it will be paid. From there the four
runs of the body give the run of the program, over any float values: it ends, every argument is unchanged
and every device's result array holds `outAt`.
-/
module

public import proofs.«01_k».proof.Proof.Body
public import Idealize.ShloMosaic.Lib.Pipeline.CollectiveSegs

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens -/

/-- The kernel's own semaphores: the three of the sends, the three of the landings. -/
abbrev osem : Fin 6 → SemLoc sig := ![.dma (sendS 0), .dma (sendS 1), .dma (sendS 2), .dma (recvS 0), .dma (recvS 1), .dma (recvS 2)]

/-- They are distinct and belong to the kernel's scope. -/
theorem ownSemFacts : Pipeline.OwnSemFacts cfg0.spec osem := by decide

/-- A device's seven cells are seven semaphores, -/
theorem csem_injective : Function.Injective (csem : Cell → SemLoc sig) := by decide

/-- and the devices' cells are all different. -/
theorem kcell_injective : Function.Injective (kcell : Dev nD × Cell → GSem nD τ sig) := by
  rintro ⟨c, i⟩ ⟨c', i'⟩ h
  have hc : c = c' := congrArg (fun g : GSem nD τ sig => g.1.1) h
  have hi : i = i' := csem_injective (congrArg Prod.snd h)
  rw [hc, hi]

/-- All of them, four devices' seven. -/
def allCells : Finset (GSem nD τ sig) := Finset.univ.map ⟨kcell, kcell_injective⟩

/-- The duties on a device's own cells: the barrier's three, a send's one, a landing's one, each with its cell. -/
abbrev duty (x : Fin 3 × Fin 3) : Cell × Fin 3 := match x.1 with
  | 0 => (none, x.2)
  | 1 => (some (.inl x.2), 0)
  | 2 => (some (.inr x.2), 0)

/-- No duty is listed twice. -/
theorem duty_injective : Function.Injective duty := by decide

/-- Their tokens. -/
abbrev tokOf (x : Dev nD × (Fin 3 × Fin 3)) : GSem nD τ sig × ℕ × Fin 3 := (kcell (x.1, (duty x.2).1), 0, (duty x.2).2)

/-- Nor is any token. -/
theorem tokOf_injective : Function.Injective (tokOf : Dev nD × (Fin 3 × Fin 3) → GSem nD τ sig × ℕ × Fin 3) := by
  rintro ⟨c, j⟩ ⟨c', j'⟩ h
  have h1 := kcell_injective (congrArg (fun x => x.1) h)
  have h2 : (duty j).2 = (duty j').2 := congrArg (fun x => x.2.2) h
  have h3 : j = j' := duty_injective (Prod.ext (congrArg Prod.snd h1) h2)
  have h4 : c = c' := congrArg Prod.fst h1
  rw [h3, h4]

/-- All the tokens. -/
def allToks : Finset (GSem nD τ sig × ℕ × Fin 3) := Finset.univ.map ⟨tokOf, tokOf_injective⟩

/-- The launch's element: the staging library's, and the cells with their tokens. -/
def u₀ : UU :=
  (initOf (Pipeline.cells cfgs cellOf_inj) (Pipeline.launchToks cfgs cellOf_inj), initOf allCells allToks)

/-- The tokens of device `c`'s own cells. -/
def toks (c : Dev nD) : sProp 𝕄 :=
  iprop((bigSep Finset.univ fun k : Fin 3 => dutyTok ER (barCell c) 0 k)
    ∗ (bigSep Finset.univ fun k : Fin 3 => dutyTok ER (sendCell k c) 0 0)
    ∗ bigSep Finset.univ fun k : Fin 3 => dutyTok ER (recvCell k c) 0 0)

/-- What is dealt for one cell: its rounds' state, the place in its round 0, and that this round has begun. -/
def fresh (ck : Dev nD × Cell) : sProp 𝕄 :=
  iprop(roundState ER (sched m ρ) (kcell ck) 0 ∗ atPos ER (kcell ck) 0 ∅ 0 ∗ reached ER (kcell ck) 0)

/-- What is dealt to device `c`: this for its seven cells, and their tokens. -/
def dealt (c : Dev nD) : sProp 𝕄 := iprop((bigSep Finset.univ fun i : Cell => fresh m ρ (c, i)) ∗ toks c)

/-- The rounds' element at launch makes up what is dealt to the four devices. -/
theorem fund : BI.own (ER (initOf allCells allToks)) ⊢ (|==> bigSep Finset.univ (dealt m ρ) : sProp 𝕄) := by
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_prod, bigSep_fin3]; rfl
  have hC : iprop(bigSep allCells (fun g => roundState ER (sched m ρ) g 0) ∗ bigSep allCells (fun g => atPos ER g 0 ∅ 0)
      ∗ bigSep allCells fun g => reached ER g 0) = bigSep Finset.univ fun c : Dev nD => bigSep Finset.univ fun i : Cell => fresh m ρ (c, i) := by
    unfold allCells
    rw [bigSep_map, bigSep_map, bigSep_map, ← bigSep_sep', ← bigSep_sep', bigSep_univ_prod]
    rfl
  iintro H
  imod (Rounds.fund ER (sched m ρ) allCells allToks) $$ H with ⟨Hst, Hr, Hat, Htok⟩
  imodintro
  unfold dealt
  rw [bigSep_sep', ← hC, ← hT]
  isplitr [Htok]
  · isplitl [Hst]; · iexact Hst
    isplitl [Hat] <;> iassumption
  iexact Htok

/-! ## The counters at zero -/

omit [FloatOps F] in
/-- The kernel's own counters, written out; -/
theorem ownSems0_eq (c : Dev nD) : (Pipeline.ownSems0 (Ix := Unit) (Name := ℕ) (U := UU) (Lvl := ℕ) (Val := Elt F) (τ := τ) osem c : sProp 𝕄)
    = iprop(semVal (sendCell 0 c) 0 ∗ semVal (sendCell 1 c) 0 ∗ semVal (sendCell 2 c) 0
      ∗ semVal (recvCell 0 c) 0 ∗ semVal (recvCell 1 c) 0 ∗ semVal (recvCell 2 c) 0) := by
  rw [Pipeline.ownSems0_eq_of_list c osem [0, 1, 2, 3, 4, 5] (by decide) (by decide)]; rfl

omit [FloatOps F] in
/-- the one counter outside the kernel's scope, the barrier's. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- A device's seven counters: the barrier's, and the kernel's own. -/
theorem counters (c : Dev nD) : (bigSep Finset.univ fun i : Cell => semVal (kcell (c, i)) 0 : sProp 𝕄)
    = iprop(unscopedSems0 c ∗ Pipeline.ownSems0 (Ix := Unit) (Name := ℕ) (U := UU) (Lvl := ℕ) (Val := Elt F) (τ := τ) osem c) := by
  rw [ownSems0_eq, unscopedSems0_eq, bigSep_cell]

/-! ## From what is dealt to what a device starts from -/

/-- A counter at zero and what is dealt for its cell open the cell: its invariant holds, under some name. -/
theorem open_cell (ck : Dev nD × Cell) : iprop(semVal (kcell ck) 0 ∗ fresh m ρ ck)
    ⊢ |={Set.univ}=> iprop((∃ κ : ℕ, cellInv ER (sched m ρ) κ (kcell ck) ∗ reached ER (kcell ck) 0) ∗ atPos ER (kcell ck) 0 ∅ 0) := by
  unfold fresh
  iintro ⟨Hv, Hst, Hat, Hr⟩
  imod ((Rounds.body_intro ER (sched m ρ) (kcell ck)).trans inv_alloc) $$ [Hv Hst] with ⟨%κ, HI⟩
  · isplitl [Hv] <;> iassumption
  imodintro
  isplitr [Hat]
  · iexists κ
    isplitl [HI] <;> iassumption
  iexact Hat

/-- So a device's seven cells open. -/
theorem open_cells (c : Dev nD) :
    iprop(Pipeline.ownSems0 (Ix := Unit) (Name := ℕ) (U := UU) (Lvl := ℕ) (Val := Elt F) (τ := τ) osem c ∗ unscopedSems0 c ∗ dealt m ρ c)
      ⊢ |={Set.univ}=> iprop(((bigSep Finset.univ fun i => iprop(∃ κ : ℕ, cellInv ER (sched m ρ) κ (kcell (c, i)) ∗ reached ER (kcell (c, i)) 0))
          ∗ bigSep Finset.univ fun i => atPos ER (kcell (c, i)) 0 ∅ 0) ∗ toks c) := by
  have h : iprop((bigSep Finset.univ fun i : Cell => semVal (kcell (c, i)) 0) ∗ bigSep Finset.univ fun i : Cell => fresh m ρ (c, i))
      ⊢ (|={Set.univ}=> bigSep Finset.univ fun i : Cell => iprop((∃ κ : ℕ, cellInv ER (sched m ρ) κ (kcell (c, i)) ∗ reached ER (kcell (c, i)) 0)
          ∗ atPos ER (kcell (c, i)) 0 ∅ 0) : sProp 𝕄) := by
    rw [← bigSep_sep']; exact (bigSep_mono fun i _ => open_cell m ρ (c, i)).trans (bigSep_fupd _ _)
  rw [← bigSep_sep']
  unfold dealt
  iintro ⟨Hos, Hus, Hfr, Htok⟩
  ihave Hv := (Entails.of_eq (counters (F := F) c).symm) $$ [Hos Hus]
  · isplitl [Hus] <;> iassumption
  imod h $$ [Hv Hfr] with H
  · isplitl [Hv] <;> iassumption
  imodintro
  isplitl [H] <;> iassumption

/-- What a device's part of the protocol is, the names of the invariants hidden. -/
def given (c : Dev nD) : sProp 𝕄 := iprop(∃ K, ghost m ρ K c)

omit [FloatOps F] in
/-- One kind of token, one for each copy, dealt from the owner of the cell to the device that pays. -/
theorem dealTo (Φ : Fin 3 → Dev nD → sProp 𝕄) (e : Fin 3 → Dev nD ≃ Dev nD) :
    (bigSep Finset.univ fun c : Dev nD => bigSep Finset.univ fun k : Fin 3 => Φ k c)
      = bigSep Finset.univ fun c : Dev nD => bigSep Finset.univ fun k : Fin 3 => Φ k (e k c) := by
  let E : Dev nD × Fin 3 ≃ Dev nD × Fin 3 := (Equiv.prodComm _ _).trans ((Equiv.prodShear (Equiv.refl _) e).trans (Equiv.prodComm _ _))
  rw [← bigSep_univ_prod (fun x : Dev nD × Fin 3 => Φ x.2 x.1), ← bigSep_univ_prod (fun x : Dev nD × Fin 3 => Φ x.2 (e x.2 x.1)),
    bigSep_univ_equiv E (fun x : Dev nD × Fin 3 => Φ x.2 x.1)]
  rfl

omit [FloatOps F] in
/-- The tokens go to the devices that pay with them. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    dealTo (fun k c => dutyTok ER (barCell c) 0 k) (fun k => (turn k).symm),
    dealTo (fun k c => dutyTok ER (recvCell k c) 0 0) turn]
  exact BI.Entails.refl _

/-- All the invariants, with names chosen once for all, are known to every device. -/
theorem deal_out :
    (bigSep Finset.univ fun c : Dev nD => iprop(((bigSep Finset.univ fun i => iprop(∃ κ : ℕ, cellInv ER (sched m ρ) κ (kcell (c, i)) ∗ reached ER (kcell (c, i)) 0))
          ∗ bigSep Finset.univ fun i => atPos ER (kcell (c, i)) 0 ∅ 0) ∗ toks c) : sProp 𝕄)
      ⊢ bigSep Finset.univ (given m ρ) := by
  have hg (K : Dev nD × Cell → ℕ) : (bigSep Finset.univ fun c : Dev nD => ghost m ρ K c) ⊢ bigSep Finset.univ (given m ρ) :=
    bigSep_mono fun c _ => show ghost m ρ K c ⊢ given m ρ c from by unfold given; iintro H; iexists K; iexact H
  rw [bigSep_sep', bigSep_sep',
    ← bigSep_univ_prod (fun ck : Dev nD × Cell => iprop(∃ κ : ℕ, cellInv ER (sched m ρ) κ (kcell ck) ∗ reached ER (kcell ck) 0))]
  iintro ⟨⟨HI, Hat⟩, Htok⟩
  ihave HK := (BI.bigSep_exists_pi Finset.univ (fun (ck : Dev nD × Cell) (κ : ℕ) =>
    (iprop(cellInv ER (sched m ρ) κ (kcell ck) ∗ reached ER (kcell ck) 0) : sProp 𝕄))) $$ HI
  icases HK with ⟨%K, HK⟩
  ihave HK := (Entails.of_eq (show (bigSep Finset.univ fun ck => iprop(cellInv ER (sched m ρ) (K ck) (kcell ck) ∗ reached ER (kcell ck) 0) : sProp 𝕄) = records m ρ K from rfl)) $$ HK
  ihave HK := (BI.bigSep_of_persistent (Finset.univ : Finset (Dev nD)) (records m ρ K)) $$ HK
  ihave Htok := (toks_around (F := F)) $$ Htok
  iapply (hg K)
  unfold ghost
  rw [bigSep_sep', bigSep_sep']
  isplitl [HK]; · iexact HK
  isplitl [Hat] <;> iassumption

/-- What is dealt, with every counter at zero, becomes every device's part of the protocol. -/
theorem glob : (bigSep Finset.univ fun c => iprop(Pipeline.ownSems0 (Ix := Unit) (Name := ℕ) (U := UU) (Lvl := ℕ) (Val := Elt F) (τ := τ) osem c ∗ unscopedSems0 c ∗ dealt m ρ c) : sProp 𝕄)
    ⊢ |={Set.univ}=> bigSep Finset.univ (given m ρ) :=
  ((bigSep_mono fun c _ => open_cells m ρ c).trans (bigSep_fupd _ _)).trans (BI.fupd_mono (deal_out m ρ))

/-! ## The credits of the launch -/

/-- What device `d` owes at launch, cell by cell. -/
theorem owed_at (d : Dev nD) (b : Dev nD × Cell) : O₀ d (kcell b) () =
    (if b = (dest 2 d, some (.inr 2)) then N else 0) + (if b = (dest 1 d, some (.inr 1)) then N else 0)
      + (if b = (dest 0 d, some (.inr 0)) then N else 0) + (if b = (orig 2 d, none) then 1 else 0)
      + (if b = (orig 1 d, none) then 1 else 0) + (if b = (orig 0 d, none) then 1 else 0) := by
  have h (a : Dev nD × Cell) (n : ℕ) : (if kcell b = kcell a then n else 0) = if b = a then n else 0 :=
    if_congr kcell_injective.eq_iff rfl rfl
  rw [O₀_apply, O₃_apply, Nat.zero_add, ← h, ← h, ← h, ← h, ← h, ← h]

/-- A cell's credit at launch is the sum of what the devices owe it. -/
theorem launch_total (b : Dev nD × Cell) (n : ℕ) (h : (∑ d : Dev nD, O₀ d (kcell b) ()) = n) :
    tallyOn (kcell b) (launchCredit (Pipeline.owing O₀) 0 (kcell b)) = (tallyAt (kcell b) () n : CellTallies nD τ sig Unit) := by
  unfold tallyAt; refine congrArg _ (Finsupp.ext fun u => ?_); cases u
  rw [Pipeline.launchCredit_owing, Finsupp.single_eq_same, h]

/-- A barrier cell is owed three units, -/
theorem total_bar (c : Dev nD) : (∑ d : Dev nD, O₀ d (kcell (c, none)) ()) = 3 := by
  rw [Finset.sum_congr rfl fun d _ => owed_at d (c, none)]
  revert c; decide

/-- a receive cell a copy's credit. -/
theorem total_recv (k : Fin 3) (c : Dev nD) : (∑ d : Dev nD, O₀ d (kcell (c, some (.inr k))) ()) = N := by
  rw [Finset.sum_congr rfl fun d _ => owed_at d (c, some (.inr k))]
  generalize N = n
  fin_cases k <;> fin_cases c <;> simp [Fin.sum_univ_succ, dest, orig]

/-- A receive semaphore is not the barrier's. -/
theorem recv_ne_bar (k : Fin 3) : (SemLoc.dma (recvS k) : SemLoc sig) ≠ SemLoc.reg barS := fun h => nomatch h

omit [FloatOps F] in
/-- So the credits of the launch are those that a device starts with. -/
theorem launch_credits (c : Dev nD) : (Pipeline.launchCred O₀ c : sProp 𝕄) ⊢ credits c := by
  have hR : (bigSep (Finset.univ.erase (SemLoc.reg barS)) fun sm : SemLoc sig => (cred (tallyOn ((c : Thread nD τ), sm) (launchCredit (Pipeline.owing O₀) 0 ((c : Thread nD τ), sm))) : sProp 𝕄))
      ⊢ bigSep Finset.univ fun k : Fin 3 => cred (tallyAt (recvCell k c) () N) := by
    refine (bigSep_subset (t := Finset.univ.map ⟨fun k : Fin 3 => (SemLoc.dma (recvS k) : SemLoc sig), by decide⟩) ?_).trans ?_
    · intro sm h
      obtain ⟨k, -, rfl⟩ := Finset.mem_map.mp h
      exact Finset.mem_erase.mpr ⟨recv_ne_bar k, Finset.mem_univ _⟩
    · rw [bigSep_map]
      exact bigSep_mono fun k _ => Entails.of_eq (congrArg cred (launch_total (c, some (.inr k)) N (total_recv k c)))
  unfold Pipeline.launchCred credits
  rw [bigSep_univ_at _ (SemLoc.reg barS)]
  exact (sep_mono_left (Entails.of_eq (congrArg cred (launch_total (c, none) 3 (total_bar c))))).trans (sep_mono_right hR)

/-! ## What the launch of the pipeline asks -/

/-- The windows' arrays are held whole. -/
theorem share_eq (c : Dev nD) (w : Fin cfg0.W) : (dats m ρ 0 c).share w = fullShare := by unfold Dat.share; split <;> rfl

/-- What the launch hands a device is what it starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ given m ρ c)
      ⊢ |={Set.univ}=> iprop(start m ρ c ∗ emp) := by
  iintro ⟨-, Hlev, Hcr, -, HG⟩
  ihave Hc := (launch_credits (F := F) c) $$ Hcr
  imodintro
  unfold start given
  isplitl
  · isplitl [HG]; · iexact HG
    isplitl [Hc] <;> iassumption
  · iempintro

/-- With the scratch array it is what holds before the grid point; -/
theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs] <;> iassumption

/-- what holds after it gives the counters and the scratch array back. -/
theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scratch
  rw [counters]
  iintro ⟨Hr, HB, HO⟩
  isplitl [HB]; · iexact HB
  isplitl [HO] <;> iassumption

/-- The staging semaphores may be waited on, before the grid point and after it. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What a window's array holds at the end. -/
def finalA (c : Dev nD) (w : Fin cfg0.W) : Buf (Elt F) ((cfg0.win w).arr.view.loc (c : Thread nD τ)) := (dats m ρ 0 c).arrAt w cfg0.N

/-- Every window's array, on every device, holds `finalA`. -/
def Holds : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On four devices, over any float values, from any memory with every counter at zero: every run of the program
    ends, with each window's array holding `finalA` and every counter at zero again. -/
theorem run_main : θ_run defs (onTc (τ := τ) (main (F := F))) (s₀ m ρ) (fun r => Holds m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := dealt m ρ) (G' := given m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The four arguments' arrays hold at the end what they held. -/
theorem finalA_in (c : Dev nD) (w : Fin cfg0.W) (h : w ≠ (4 : Fin 5)) :
    finalA m ρ c w = (s₀ m ρ).mem ((cfg0.win w).arr.view.loc (c : Thread nD τ)) :=
  (dats (F := F) m ρ 0 c).arrAt_in w (by revert w; decide) _

end Cert.Moe

end
-- ==== Proof.Arrays.lean ====
/-
# What the arrays hold after the run

The grid has one point and every window is its whole array: a staged input is the argument itself, and the
result array ends as the block that the body wrote.
-/
module

public import proofs.«01_k».proof.Proof.Launch
public import Idealize.ShloMosaic.Lib.Pipeline.Value

@[expose] public section

noncomputable section

namespace Cert.Moe

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The staged tokens are the first argument. -/
theorem xstg_eq (c : Dev nD) : xstg m ρ c = m ((c : Thread nD τ).loc main_arg0) := by
  funext j
  refine congrArg (m ((c : Thread nD τ).loc main_arg0)) (funext fun a => Fin.ext ?_)
  fin_cases a <;> exact (Nat.zero_add _).trans (Nat.one_mul _)

/-- The staged routes are the third argument. -/
theorem rstg_eq (c : Dev nD) : rstg m ρ c = m ((c : Thread nD τ).loc main_arg2) := by
  funext j
  refine congrArg (m ((c : Thread nD τ).loc main_arg2)) (funext fun a => Fin.ext ?_)
  fin_cases a <;> exact (Nat.zero_add _).trans (Nat.one_mul _)

/-- The staged weights are the fourth argument: the device's two experts. -/
theorem wstg_eq (c : Dev nD) : wstg m ρ c = m ((c : Thread nD τ).loc main_arg3) := by
  funext j
  refine congrArg (m ((c : Thread nD τ).loc main_arg3)) (funext fun a => Fin.ext ?_)
  fin_cases a <;> exact (Nat.zero_add _).trans (Nat.one_mul _)

/-- An index of the result's one block is the same index of the result. -/
theorem emb_result (t : Fin cfg0.N) (j : S512x512.Idx) : ((cfg0.win 4).blk t).view.emb j = j := by
  obtain rfl := fin_N0 t
  funext a
  apply Fin.ext
  fin_cases a <;> exact (Nat.zero_add _).trans (Nat.one_mul _)

/-- The result array of device `c` ends as the block its body wrote. -/
theorem finalA_out (c : Dev nD) : finalA m ρ c (4 : Fin 5) = outAt m ρ c := by
  refine (dats (F := F) m ρ 0 c).arrAt_eq_of_cover (4 : Fin 5) (outAt m ρ c) (fun t _ => ?_) (fun i => ?_)
  · unfold Pipeline.Dat.flushed
    funext j
    exact (congrArg (outAt m ρ c) (emb_result t j)).symm
  · refine ⟨t0_0, flush0_4 _, ?_⟩
    have h := Finset.mem_map_of_mem ((cfg0.win 4).blk t0_0).view.emb (Finset.mem_univ i)
    rw [emb_result] at h
    exact h

end Cert.Moe

end
-- ==== Proof.Frames.lean ====
/-
# The frames

Each program ends, leaves its arguments as they were and every semaphore counter at zero. The kernel and its
idealization have one text, so both frames are the one run, read over the float words and over the extended
reals; the reference runs on one device without any semaphore.
-/
module

public import proofs.«01_k».proof.Defs
public import proofs.«01_k».proof.Proof.Arrays
public import proofs.«01_k».proof.Proof.Gen.Kernel
public import proofs.«01_k».proof.Proof.Gen.ReferenceIdeal.Run

@[expose] public section

noncomputable section

namespace Cert.Moe

open Idealize.ShloMosaic Idealize.ShloMosaic.TcCoe Idealize.SL.Sem

/-- Over any float values: the kernel ends, with its arguments unchanged and every counter at zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
        ∧ r.2.sem = fun _ => 0) :=
  (θ_run Cert.KernelIdeal.defs _ _).mono (fun r h => ⟨fun c =>
    ⟨(h.1 c (0 : Fin 5)).trans (finalA_in m ρ c 0 (by decide)), (h.1 c (1 : Fin 5)).trans (finalA_in m ρ c 1 (by decide)),
      (h.1 c (2 : Fin 5)).trans (finalA_in m ρ c 2 (by decide)), (h.1 c (3 : Fin 5)).trans (finalA_in m ρ c 3 (by decide))⟩, h.2⟩)
    (run_main m ρ)

/-- The kernel's body table is its idealization's: the two programs have one text. -/
theorem bodies_eq : Cert.Kernel.defs₀ (F := Bits) = Cert.KernelIdeal.defs₀ (F := Bits) := by
  refine congrArg Defs.onTc (funext fun l => funext fun a => ?_)
  match l, a with
  | 0, (t, s) => rfl

/-- So the whole tables, with the regions, are the same. -/
theorem defs_eq : Cert.Kernel.defs (F := Bits) = Cert.KernelIdeal.defs (F := Bits) :=
  congrArg (Pipeline.defs Cert.KernelIdeal.pcfgs) bodies_eq

/-- The kernel over the float words: it ends, with its arguments unchanged and every counter at zero. -/
theorem frame_kernel : Cert.quiescent_Kernel := fun m ρ _ =>
  (congrArg (fun D => θ_run D (onTc (τ := Cert.KernelIdeal.τ) (Cert.KernelIdeal.main (F := Bits))) ⟨m, fun _ => 0, ρ⟩ _) defs_eq).mpr
    (frame_any (F := Bits) m ρ)

/-- The kernel over the extended reals: the same. -/
theorem frame_ideal : Cert.quiescent_KernelIdeal := fun m ρ _ => frame_any (F := Ideal) m ρ

/-- The reference over the extended reals: it ends with its arguments unchanged, and it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Moe

end
-- ==== Proof.Rank.lean ====
/-
# Ranks and slots

A row's rank is the number of rows before it that go to the same expert, and its slot is 56 times its
expert plus its rank. Here: rows of rank below 51 have slots of their own, and a running count by doubling
shifts is a sum over a window that grows from one row to all of them.
-/
module

public import Mathlib.Algebra.BigOperators.Intervals
public import Mathlib.Algebra.BigOperators.Fin
public import Mathlib.Data.EReal.Operations

@[expose] public section

noncomputable section

namespace Cert.Moe

open scoped BigOperators

/-- How many rows before row `i` go to row `i`'s expert. -/
def rank (t : Fin 512 → ℕ) (i : Fin 512) : ℕ := (Finset.univ.filter fun j => j < i ∧ t j = t i).card

/-- Row `i`'s place in the table of 8 experts times 56 rows. -/
def slot (t : Fin 512 → ℕ) (i : Fin 512) : ℕ := 56 * t i + rank t i

/-- A rank is below the number of rows. -/
theorem rank_lt (t : Fin 512 → ℕ) (i : Fin 512) : rank t i < 512 := by
  have h : (Finset.univ.filter fun j => j < i ∧ t j = t i) ⊂ Finset.univ :=
    Finset.ssubset_univ_iff.mpr fun e => by
      have := e ▸ Finset.mem_univ i
      simp at this
  simpa [rank] using Finset.card_lt_card h

/-- The earlier of two rows of one expert has the smaller rank. -/
theorem rank_lt_rank (t : Fin 512 → ℕ) {i j : Fin 512} (h : t i = t j) (hij : i < j) : rank t i < rank t j := by
  refine Finset.card_lt_card (Finset.ssubset_iff_of_subset ?_ |>.mpr ⟨i, ?_, ?_⟩)
  · intro k hk
    simp only [Finset.mem_filter, Finset.mem_univ, true_and] at hk ⊢
    exact ⟨hk.1.trans hij, hk.2.trans h⟩
  · simp [hij, h]
  · simp

/-- Two rows whose ranks fit in an expert's 56 places and whose slots agree are the same row. -/
theorem slot_inj (t : Fin 512 → ℕ) {i j : Fin 512} (hi : rank t i < 51) (hj : rank t j < 51)
    (h : slot t i = slot t j) : i = j := by
  have ht : t i = t j := by unfold slot at h; omega
  have hr : rank t i = rank t j := by unfold slot at h; omega
  rcases lt_trichotomy i j with l | e | l
  · exact absurd hr (rank_lt_rank t ht l).ne
  · exact e
  · exact absurd hr (rank_lt_rank t ht.symm l).ne'

/-- The sum of the last `n` values of a sequence up to place `i`, or of all of them if there are fewer. -/
def window (f : ℕ → EReal) (n i : ℕ) : EReal := ∑ d ∈ Finset.range n, if d ≤ i then f (i - d) else 0

/-- A window of length one is the value itself. -/
theorem window_one (f : ℕ → EReal) (i : ℕ) : window f 1 i = f i := by simp [window]

/-- A window of twice the length is the window plus the window before it. -/
theorem window_add (f : ℕ → EReal) (n i : ℕ) :
    window f n i + (if n ≤ i then window f n (i - n) else 0) = window f (n + n) i := by
  unfold window
  rw [Finset.sum_range_add]
  congr 1
  split_ifs with h
  · refine Finset.sum_congr rfl fun d _ => ?_
    have e : d ≤ i - n ↔ n + d ≤ i := by omega
    simp only [e, Nat.sub_sub]
  · refine (Finset.sum_eq_zero fun d _ => if_neg ?_).symm
    omega

/-- The window as long as the sequence sums it all up to place `i`. -/
theorem window_all (f : ℕ → EReal) (n i : ℕ) (h : i < n) : window f n i = ∑ j ∈ Finset.range (i + 1), f j := by
  unfold window
  rw [show n = (i + 1) + (n - (i + 1)) by omega, Finset.sum_range_add]
  rw [Finset.sum_eq_zero (s := Finset.range (n - (i + 1))) fun d _ => if_neg (by omega), add_zero,
    ← Finset.sum_range_reflect f]
  refine Finset.sum_congr rfl fun d hd => ?_
  have := Finset.mem_range.mp hd
  rw [if_pos (by omega)]
  congr 1

/-- Counting the rows up to and with row `i` that go to row `i`'s expert gives one more than its rank. -/
theorem window_rank (t : Fin 512 → ℕ) (i : Fin 512) :
    window (fun j => if h : j < 512 then (if t ⟨j, h⟩ = t i then 1 else 0) else 0) 512 i.val
      = ((rank t i + 1 : ℕ) : EReal) := by
  rw [window_all _ _ _ i.isLt, Finset.sum_range_succ, dif_pos i.isLt, if_pos rfl, Nat.cast_add, Nat.cast_one]
  congr 1
  have e : ∑ j ∈ Finset.range i.val, (fun j => if h : j < 512 then (if t ⟨j, h⟩ = t i then (1 : EReal) else 0) else 0) j
      = ∑ j : Fin 512, if j < i ∧ t j = t i then (1 : EReal) else 0 := by
    have h : ∀ j : ℕ, j ∈ Finset.range i.val ↔ j ∈ Finset.range 512 ∧ j < i.val := fun j => by
      have := i.isLt; simp; omega
    rw [show Finset.range i.val = (Finset.range 512).filter (· < i.val) by ext j; simp [h],
      Finset.sum_filter, Finset.sum_range]
    refine Finset.sum_congr rfl fun j _ => ?_
    simp only [j.isLt, dif_pos, Fin.lt_def, Fin.eta]
    by_cases a : j.val < i.val <;> simp [a]
  rw [e, Finset.sum_boole]
  rfl

end Cert.Moe

end
-- ==== Proof.Counts.lean ====
/-
# The kernel's ranks

The kernel counts ranks with floats: it marks each row's expert in a 512×8 array, adds the array to
itself shifted down by 1, 2, 4, … 256 rows, and reads off at each row's own expert one more than the
row's rank. Here: what those payloads hold when every route is one of the eight experts.
-/
module

public import proofs.«01_k».proof.Proof.Rank
public import proofs.«01_k».proof.Proof.Gen.KernelIdeal.Skeleton
public import Idealize.ShloMosaic.Lib.Pointwise
public import Idealize.ShloMosaic.Lib.WordArith

@[expose] public section

set_option maxRecDepth 16384

noncomputable section

namespace Cert.Moe

open Cert.KernelIdeal Cert.KernelIdeal.Gen
open Idealize.ShloMosaic
open scoped BigOperators

/-- Adding an array to itself shifted down by `n` rows doubles the window every entry sums over. -/
theorem shift_add {n m : ℕ} (hn : n + m = 512) (v : FVec Ideal S512x8 .f32) (z : FVec Ideal ⟨2, ![n, 8]⟩ .f32)
    (hz : ∀ j, z j = 0) (hs : Shape.Slices S512x8 ![0, 0] ⟨2, ![m, 8]⟩)
    (hc : Shape.Concatenates [⟨2, ![n, 8]⟩, ⟨2, ![m, 8]⟩] S512x8 0)
    (f : Fin 8 → ℕ → EReal) (hv : ∀ (i : Fin 512) (e : Fin 8), v (ix2 i e) = window (f e) n i)
    (i : Fin 512) (e : Fin 8) :
    addf v (concatenate S512x8 0 [⟨⟨2, ![n, 8]⟩, z⟩, ⟨⟨2, ![m, 8]⟩, extractStridedSlice ⟨2, ![m, 8]⟩ ![0, 0] v hs⟩] hc)
      (ix2 i e) = window (f e) (n + n) i := by
  rw [← window_add]
  show v (ix2 i e) + _ = _
  rw [hv]
  congr 1
  split_ifs with h
  · rw [concatenate_pair_apply_right 0 z _ hc (ix2 i e) rfl rfl (ix2 (⟨i.val - n, by omega⟩ : Fin m) e)]
    · rw [extractStridedSlice_apply _ v hs _ (ix2 (⟨i.val - n, by omega⟩ : Fin 512) e)]
      · exact hv _ _
      · intro a; fin_cases a <;> simp
    · intro b hb; fin_cases b
      · exact absurd rfl hb
      · rfl
    · show i.val - n + n = i.val; omega
  · rw [concatenate_pair_apply_left 0 z _ hc (ix2 i e) rfl (ix2 (⟨i.val, by omega⟩ : Fin n) e)]
    · exact hz _
    · intro b; fin_cases b <;> rfl

/-- A row's expert: its route read as a natural number. -/
def expertOf (r : Vec Ideal S512x1 .i32) (i : Fin 512) : ℕ := (r (ix2 i 0)).toNat

/-- The one-bit word of a proposition, widened and converted, is one where the proposition holds and zero elsewhere. -/
theorem sitofp_ofBool (p : Prop) [Decidable p] (φ : FTy) :
    (FloatOps.sitofp φ (BitVec.setWidth 32 (BitVec.ofBool (decide p))) : Ideal φ) = if p then (1 : EReal) else 0 := by
  by_cases h : p
  · rw [decide_eq_true h, if_pos h]
    show (((BitVec.setWidth 32 (BitVec.ofBool true)).toInt : ℝ) : EReal) = 1
    rw [show (BitVec.setWidth 32 (BitVec.ofBool true)).toInt = 1 by decide]; norm_num
  · rw [decide_eq_false h, if_neg h]
    show (((BitVec.setWidth 32 (BitVec.ofBool false)).toInt : ℝ) : EReal) = 0
    rw [show (BitVec.setWidth 32 (BitVec.ofBool false)).toInt = 0 by decide]; norm_num

/-- A word is a small natural number's word when it reads as that number. -/
theorem cmpi_eq_ofNat (w : BitVec 32) (n : ℕ) (hn : n < 2 ^ 32) :
    IntOp.cmpi .eq w (BitVec.ofNat 32 n) = BitVec.ofBool (decide (w.toNat = n)) := by
  have e : w = BitVec.ofNat 32 n ↔ w.toNat = n := by
    rw [← BitVec.toNat_inj, BitVec.toNat_ofNat, Nat.mod_eq_of_lt hn]
  show BitVec.ofBool (w == BitVec.ofNat 32 n) = _
  congr 1
  rw [beq_eq_decide]
  exact decide_eq_decide.mpr e

/-- The marks: row `i` has a one at its expert. -/
theorem marks_apply (r : Vec Ideal S512x1 .i32) (i : Fin 512) (e : Fin 8) :
    k0_pay2 r (ix2 i e) = if expertOf r i = e.val then (1 : EReal) else 0 := by
  pointwise [k0_pay2, k0_pay1]
  rw [cmpi_eq_ofNat _ _ (by omega), sitofp_ofBool]
  rfl

/-- The marks of expert `e`, row after row. -/
def mark (r : Vec Ideal S512x1 .i32) (e : Fin 8) (j : ℕ) : EReal :=
  if h : j < 512 then (if expertOf r ⟨j, h⟩ = e.val then 1 else 0) else 0

/-- The array that is shifted in is zero everywhere. -/
theorem zeros_apply (s : Shape) (j : s.Idx) :
    (broadcast s (Scalar.ofBits .f32 0x00000000#32 : Ideal .f32) : FVec Ideal s .f32) j = 0 := Ideal.ofBits_zero_f32

/-- After the first six shifts every entry counts the marks of 64 rows. -/
theorem counts64_apply (r : Vec Ideal S512x1 .i32) (i : Fin 512) (e : Fin 8) :
    k0_pay3 r (ix2 i e) = window (mark r e) 64 i := by
  refine shift_add (n := 32) (m := 480) rfl _ _ (zeros_apply _) _ _ (mark r) (fun i e => ?_) i e
  refine shift_add (n := 16) (m := 496) rfl _ _ (zeros_apply _) _ _ (mark r) (fun i e => ?_) i e
  refine shift_add (n := 8) (m := 504) rfl _ _ (zeros_apply _) _ _ (mark r) (fun i e => ?_) i e
  refine shift_add (n := 4) (m := 508) rfl _ _ (zeros_apply _) _ _ (mark r) (fun i e => ?_) i e
  refine shift_add (n := 2) (m := 510) rfl _ _ (zeros_apply _) _ _ (mark r) (fun i e => ?_) i e
  refine shift_add (n := 1) (m := 511) rfl _ _ (zeros_apply _) _ _ (mark r) (fun i e => ?_) i e
  rw [marks_apply, window_one, mark, dif_pos i.isLt]

/-- The lane sum of a product less one. -/
theorem pick_apply (a v : FVec Ideal S512x8 .f32) (i : Fin 512) :
    subf (shapeCast S512x1 (multiReduction .add [1] S512 (mulf a v) 0x00000000#32 reduces_S512x8_S512 (.inl rfl) rfl)
        shapeCasts_S512_S512x1)
      (broadcast S512x1 (Scalar.ofBits .f32 0x3F800000#32 : Ideal .f32)) (ix2 i 0)
      = (∑ e : Fin 8, a (ix2 i e) * v (ix2 i e) : EReal) - 1 := by
  pointwise

/-- One less than the next natural number is that number. -/
theorem natCast_succ_sub_one (n : ℕ) : ((n + 1 : ℕ) : EReal) - 1 = (n : EReal) := by
  rw [← EReal.coe_natCast, ← EReal.coe_natCast (n := n), ← EReal.coe_one, ← EReal.coe_sub]
  exact congrArg _ (by push_cast; ring)

/-- The last three shifts count over all rows, and each row's own expert gives its rank. -/
theorem prior_apply (r : Vec Ideal S512x1 .i32) (h : ∀ i, expertOf r i < 8) (i : Fin 512) :
    k0_pay5 (k0_pay2 r) (k0_pay3 r) k0_pay4 (ix2 i 0) = ((rank (expertOf r) i : ℕ) : EReal) := by
  refine (pick_apply _ _ i).trans ?_
  have hw : ∀ e : Fin 8, _ = window (mark r e) 512 i := fun e =>
    shift_add (n := 256) (m := 256) rfl _ _ (zeros_apply _) slices_S512x8_o0_0_S256x8
      concatenates_S256x8_S256x8_S512x8_d0 (mark r) (fun i e =>
    shift_add (n := 128) (m := 384) rfl _ _ (zeros_apply _) slices_S512x8_o0_0_S384x8
      concatenates_S128x8_S384x8_S512x8_d0 (mark r) (fun i e =>
    shift_add (n := 64) (m := 448) rfl _ _ (zeros_apply _) slices_S512x8_o0_0_S448x8
      concatenates_S64x8_S448x8_S512x8_d0 (mark r) (counts64_apply r) i e) i e) i e
  refine (congrArg (· - (1 : EReal)) (Finset.sum_congr rfl fun e _ => congrArg (_ * ·) (hw e))).trans ?_
  have hm : ∀ e : Fin 8, k0_pay2 r (ix2 i e) * window (mark r e) 512 i
      = if e = ⟨expertOf r i, h i⟩ then ((rank (expertOf r) i + 1 : ℕ) : EReal) else 0 := fun e => by
    rw [marks_apply]
    by_cases he : e = ⟨expertOf r i, h i⟩
    · subst he
      rw [if_pos rfl, if_pos rfl, one_mul]
      exact window_rank (expertOf r) i
    · rw [if_neg he, if_neg fun q => he (Fin.ext q.symm), zero_mul]
  rw [Finset.sum_congr rfl fun e _ => hm e, Finset.sum_ite_eq' Finset.univ, if_pos (Finset.mem_univ _)]
  exact natCast_succ_sub_one _

/-- The bit pattern of the kernel's capacity is the number 51. -/
theorem ofBits_51 : Ideal.ofBits .f32 0x424C0000#32 = ((51 : ℝ) : EReal) := by
  simp [Ideal.ofBits, Ideal.ieee, -EReal.coe_mul]; norm_num

/-- A row is accepted when its rank is below 51. -/
theorem accept_apply (r : Vec Ideal S512x1 .i32) (h : ∀ i, expertOf r i < 8) (i : Fin 512) :
    k0_pay6 (k0_pay2 r) (k0_pay3 r) k0_pay4 (ix2 i 0) = BitVec.ofBool (decide (rank (expertOf r) i < 51)) := by
  pointwise [k0_pay6]
  rw [prior_apply r h, ofBits_51]
  congr 1
  refine decide_eq_decide.mpr ?_
  rw [← EReal.coe_natCast, EReal.coe_lt_coe_iff]
  exact_mod_cast Iff.rfl

/-- Converting a small natural number to a word gives that number's word. -/
theorem fptosi_natCast (n : ℕ) (hn : n < 2 ^ 31) :
    FloatOps.fptosi (F := Ideal) (φ := .f32) 32 (n : EReal) = BitVec.ofNat 32 n := by
  rw [← EReal.coe_natCast]
  show BitVec.ofInt 32 (Ideal.toIntClamped _ _ ((n : ℝ) : EReal)) = _
  rw [Ideal.toIntClamped_coe, if_pos (Nat.cast_nonneg n), Int.floor_natCast, min_eq_right, max_eq_right,
    BitVec.ofInt_natCast]
  · omega
  · norm_num at hn ⊢; omega

/-- A row's place is its slot. -/
theorem place_apply (r : Vec Ideal S512x1 .i32) (h : ∀ i, expertOf r i < 8) (i : Fin 512) :
    k0_pay7 (k0_pay1 r) (k0_pay2 r) (k0_pay3 r) k0_pay4 (ix2 i 0) = BitVec.ofNat 32 (slot (expertOf r) i) := by
  pointwise [k0_pay7, k0_pay1]
  rw [prior_apply r h, fptosi_natCast _ ((rank_lt _ i).trans (by norm_num))]
  have e : r (ix2 i 0) = BitVec.ofNat 32 (expertOf r i) := by simp [expertOf]
  rw [e]
  show 56#32 * _ + _ = _
  rw [← BitVec.ofNat_mul, ← BitVec.ofNat_add, slot]

end Cert.Moe

end
-- ==== Proof.Masks.lean ====
/-
# The kernel's masks

A device's own place is `d`, and its 112 rows are the slots from `112 d` on. Here: the mask that gathers
the device's rows picks slot `112 d + s` for row `s`, and the mask that scatters the four slabs picks, for
column `q`, slot `(112 d + q) mod 448` — the kernel's signed remainder, corrected to be non-negative.
-/
module

public import proofs.«01_k».proof.Proof.Counts
public import proofs.«01_k».proof.Proof.Exchange
public import Idealize.ShloMosaic.Lib.Routing.Words

@[expose] public section

set_option maxRecDepth 16384

noncomputable section

namespace Cert.Moe

open Cert.KernelIdeal Cert.KernelIdeal.Gen
open Idealize.ShloMosaic
open scoped BigOperators

/-- A device's position word is its number. -/
theorem word_eq (c : Dev nD) : word c = BitVec.ofNat 32 c.val := by
  revert c; decide

/-- The slot less the device's first one, as a word read as a natural number. -/
theorem toNat_relative (n d : ℕ) (hn : n < 448) (hd : d < 4) :
    (IntOp.subi (BitVec.ofNat 32 n) (Scalar.muli 112#32 (BitVec.ofNat 32 d))).toNat
      = if 112 * d ≤ n then n - 112 * d else 2 ^ 32 + n - 112 * d := by
  show (BitVec.ofNat 32 n - 112#32 * BitVec.ofNat 32 d).toNat = _
  rw [← BitVec.ofNat_mul, BitVec.toNat_sub, BitVec.toNat_ofNat, BitVec.toNat_ofNat,
    Nat.mod_eq_of_lt (a := n) (by omega), Nat.mod_eq_of_lt (a := 112 * d) (by omega)]
  split_ifs <;> omega

/-- Column `s` of the gathering mask is slot `112 d + s`. -/
theorem gather_bit (n d s : ℕ) (hn : n < 448) (hd : d < 4) (hs : s < 112) :
    IntOp.cmpi .eq (IntOp.subi (BitVec.ofNat 32 n) (Scalar.muli 112#32 (BitVec.ofNat 32 d))) (BitVec.ofNat 32 s)
      = BitVec.ofBool (decide (n = 112 * d + s)) := by
  rw [cmpi_eq_ofNat _ _ (by omega), toNat_relative n d hn hd]
  congr 1
  refine decide_eq_decide.mpr ?_
  split_ifs <;> omega

/-- A word between −448 and 448 is its own signed remainder by 448. -/
theorem remsi_small (y : BitVec 32) (hy : y.toNat < 448 ∨ 2 ^ 32 - 448 < y.toNat) :
    IntOp.remsi .vector y 448#32 = y := by
  have hc : ¬ IntOp.SDivCorner y 448#32 := by
    rintro (h | ⟨_, h⟩) <;> exact absurd h (by decide)
  unfold IntOp.remsi
  rw [if_neg hc]
  have h4 : (448#32).msb = false := by decide
  rcases hy with hy | hy
  · have hm : y.msb = false := by rw [BitVec.msb_eq_decide]; simp; omega
    apply BitVec.eq_of_toNat_eq
    simp only [BitVec.srem, hm, h4]
    exact Nat.mod_eq_of_lt hy
  · have hm : y.msb = true := by rw [BitVec.msb_eq_decide]; simp; omega
    have hl := y.isLt
    apply BitVec.eq_of_toNat_eq
    simp only [BitVec.srem, hm, h4]
    show (-(-y % 448#32)).toNat = y.toNat
    rw [BitVec.toNat_neg, BitVec.toNat_umod, BitVec.toNat_neg, BitVec.toNat_ofNat,
      Nat.mod_eq_of_lt (a := 2 ^ 32 - y.toNat) (by omega), Nat.mod_eq_of_lt (a := 448) (by norm_num),
      Nat.mod_eq_of_lt (b := 448) (by omega)]
    omega

/-- The signed remainder by 448, made non-negative, of a slot less the device's first one. -/
theorem wrap_word (y : BitVec 32) (n d : ℕ) (hn : n < 448) (hd : d < 4)
    (hy : y.toNat = if 112 * d ≤ n then n - 112 * d else 2 ^ 32 + n - 112 * d) :
    Scalar.select
        (IntOp.andi
          (IntOp.xori (IntOp.cmpi .slt (IntOp.remsi .vector y 448#32) 0#32) (Scalar.cmpi .slt 448#32 0#32))
          (IntOp.cmpi .ne (IntOp.remsi .vector y 448#32) 0#32))
        (IntOp.addi (IntOp.remsi .vector y 448#32) 448#32) (IntOp.remsi .vector y 448#32)
      = BitVec.ofNat 32 ((448 + n - 112 * d) % 448) := by
  rw [remsi_small y (by split_ifs at hy <;> omega)]
  split_ifs at hy with hc
  · have e : y = BitVec.ofNat 32 (n - 112 * d) := by
      apply BitVec.eq_of_toNat_eq; rw [hy, BitVec.toNat_ofNat, Nat.mod_eq_of_lt (by omega)]
    have hs : IntOp.cmpi .slt y 0#32 = 0#1 := by
      show BitVec.ofBool (y.slt 0#32) = 0#1
      have : y.slt 0#32 = false := by
        rw [BitVec.slt_zero_eq_msb, BitVec.msb_eq_decide]; simp; omega
      rw [this]; rfl
    have z : ∀ b : BitVec 1, IntOp.andi (IntOp.xori 0#1 (Scalar.cmpi .slt 448#32 0#32)) b = 0#1 := by decide
    rw [hs, z, e]
    show BitVec.ofNat 32 _ = _
    congr 1; omega
  · have hs : IntOp.cmpi .slt y 0#32 = 1#1 := by
      show BitVec.ofBool (y.slt 0#32) = 1#1
      have : y.slt 0#32 = true := by
        rw [BitVec.slt_zero_eq_msb, BitVec.msb_eq_decide]; simp; omega
      rw [this]; rfl
    have hne : IntOp.cmpi .ne y 0#32 = 1#1 := by
      show BitVec.ofBool (y != 0#32) = 1#1
      have : (y != 0#32) = true := by
        rw [bne_iff_ne]; intro q; rw [q] at hy; simp at hy; omega
      rw [this]; rfl
    have z : IntOp.andi (IntOp.xori 1#1 (Scalar.cmpi .slt 448#32 0#32)) 1#1 = 1#1 := by decide
    rw [hs, hne, z]
    apply BitVec.eq_of_toNat_eq
    show (y + 448#32).toNat = _
    rw [BitVec.toNat_add, hy, BitVec.toNat_ofNat, BitVec.toNat_ofNat]
    omega

/-- Column `q` of the scattering mask is slot `(112 d + q) mod 448`, for an accepted row. -/
theorem scatter_apply (r : Vec Ideal S512x1 .i32) (h : ∀ i, expertOf r i < 8) (d : ℕ) (hd : d < 4) (i : Fin 512)
    (q : Fin 448) :
    (FloatOps.sitofp .f32 (maskOf (F := Ideal) (BitVec.ofNat 32 d) r (ix2 i q)) : Ideal .f32)
      = if rank (expertOf r) i < 51 ∧ slot (expertOf r) i = (112 * d + q) % 448 then (1 : EReal) else 0 := by
  unfold maskOf
  pointwise [k0_pay12]
  rw [accept_apply r h, place_apply r h]
  by_cases hr : rank (expertOf r) i < 51
  · have hn : slot (expertOf r) i < 448 := by have := h i; unfold slot; omega
    rw [show Scalar.select (Scalar.cmpi CmpIPredicate.eq 448#32 0#32) 1#32 448#32 = 448#32 by decide]
    rw [wrap_word _ _ d hn hd (toNat_relative _ d hn hd), cmpi_eq_ofNat _ _ (by omega), WordArith.andi_ofBool,
      ← Bool.decide_and, sitofp_ofBool]
    refine if_congr ?_ rfl rfl
    rw [BitVec.toNat_ofNat, Nat.mod_eq_of_lt (a := _ % 448) (by omega)]
    omega
  · rw [decide_eq_false hr, if_neg fun q => hr q.1]
    have z : ∀ b : BitVec 1, IntOp.andi b (BitVec.ofBool false) = BitVec.ofBool (decide False) := by decide
    rw [z, sitofp_ofBool, if_neg id]

/-- Column `s` of the gathering mask times the tokens: the token whose slot is `112 d + s`, if there is one. -/
theorem gather_apply (r : Vec Ideal S512x1 .i32) (h : ∀ i, expertOf r i < 8) (x : Vec Ideal S512x256 .f32)
    (d : ℕ) (hd : d < 4) (s : Fin 112) (k : Fin 256) :
    k0_pay8 (BitVec.ofNat 32 d) (k0_pay1 (F := Ideal) r) (k0_pay2 r) (k0_pay3 r) k0_pay4 x (ix2 s k)
      = ∑ i : Fin 512, (if rank (expertOf r) i < 51 ∧ slot (expertOf r) i = 112 * d + s then (1 : EReal) else 0)
          * x (ix2 i k) := by
  pointwise [k0_pay8]
  refine Finset.sum_congr rfl fun i _ => congrArg (· * _) ?_
  rw [accept_apply r h, place_apply r h]
  by_cases hr : rank (expertOf r) i < 51
  · have hn : slot (expertOf r) i < 448 := by have := h i; unfold slot; omega
    rw [gather_bit _ d _ hn hd s.isLt, WordArith.andi_ofBool, ← Bool.decide_and, sitofp_ofBool]
    exact if_congr (and_comm) rfl rfl
  · rw [decide_eq_false hr, if_neg fun q => hr q.1]
    have z : ∀ b : BitVec 1, IntOp.andi b (BitVec.ofBool false) = BitVec.ofBool (decide False) := by decide
    rw [z, sitofp_ofBool, if_neg id]

end Cert.Moe

end
-- ==== Proof.Rows.lean ====
/-
# Rows and result

Row `s` of a device's 112 rows is the token in slot `112 d + s` times that slot's expert, and the result
reads each accepted token's slot back from the four devices' rows. Together: an accepted token's row of the
result is the token times its own expert, and a rejected token's row is zero.
-/
module

public import proofs.«01_k».proof.Proof.Masks

@[expose] public section

set_option maxRecDepth 16384

noncomputable section

namespace Cert.Moe

open Cert.KernelIdeal Cert.KernelIdeal.Gen
open Idealize.ShloMosaic
open scoped BigOperators

/-- The token in slot `q`: the sum over all rows of those that are accepted into it. -/
def gathered (t : Fin 512 → ℕ) (x : Vec Ideal S512x256 .f32) (q : ℕ) (k : Fin 256) : EReal :=
  ∑ i : Fin 512, (if rank t i < 51 ∧ slot t i = q then (1 : EReal) else 0) * x (ix2 i k)

/-- The row in slot `q`: the slot's token times the slot's expert. -/
def table (t : Fin 512 → ℕ) (x : Vec Ideal S512x256 .f32) (E : ℕ → Fin 256 → Fin 512 → EReal) (q : ℕ) (j : Fin 512) :
    EReal :=
  ∑ k : Fin 256, gathered t x q k * E (q / 56) k j

/-- The slot of an accepted row holds that row's token. -/
theorem gathered_slot (t : Fin 512 → ℕ) (x : Vec Ideal S512x256 .f32) (i : Fin 512) (hi : rank t i < 51) (k : Fin 256) :
    gathered t x (slot t i) k = x (ix2 i k) := by
  unfold gathered
  rw [Finset.sum_eq_single i]
  · rw [if_pos ⟨hi, rfl⟩, one_mul]
  · intro b _ hb
    rw [if_neg fun q => hb (slot_inj t q.1 hi q.2), zero_mul]
  · intro hb; exact absurd (Finset.mem_univ i) hb

/-- The slot of an accepted row holds that row's token times its expert. -/
theorem table_slot (t : Fin 512 → ℕ) (x : Vec Ideal S512x256 .f32) (E : ℕ → Fin 256 → Fin 512 → EReal) (i : Fin 512)
    (hi : rank t i < 51) (j : Fin 512) :
    table t x E (slot t i) j = ∑ k : Fin 256, x (ix2 i k) * E (t i) k j := by
  unfold table
  have e : slot t i / 56 = t i := by unfold slot; omega
  exact Finset.sum_congr rfl fun k _ => by rw [gathered_slot t x i hi, e]

/-- Reading one of a device's two experts out of its weights. -/
theorem read_expert (b : Fin 2) (o : Fin 3 → ℕ) (ho : o = ![b.val, 0, 0])
    (inb : ∀ a, o a + S1x256x512.size a ≤ S2x256x512.size a) (W : S2x256x512.Idx → Elt Ideal .f32) (k : Fin 256)
    (j : Fin 512) :
    (View.whole cc0_stg3_0).readAt (Elt Ideal) (Rect.unit (s := S2x256x512) o S1x256x512.size inb).toLoadRect W
      (ix3 (n0 := 1) 0 k j) = W (ix3 b k j) := by
  subst ho
  refine congrArg W (funext fun a => Fin.ext ?_)
  fin_cases a
  · show b.val + 1 * 0 = b.val; omega
  · show 0 + 1 * k.val = k.val; omega
  · show 0 + 1 * j.val = j.val; omega

/-- Row `s` of device `d`'s rows is the row in slot `112 d + s`. -/
theorem rowsOf_apply (r : Vec Ideal S512x1 .i32) (h : ∀ i, expertOf r i < 8) (x : Vec Ideal S512x256 .f32)
    (W : S2x256x512.Idx → Elt Ideal .f32) (E : ℕ → Fin 256 → Fin 512 → EReal) (d : ℕ) (hd : d < 4)
    (hE : ∀ (b : Fin 2) (k : Fin 256) (j : Fin 512), W (ix3 b k j) = E (2 * d + b) k j) (s : Fin 112) (j : Fin 512) :
    rowsOf (F := Ideal) (BitVec.ofNat 32 d) x r W (ix2 s j) = table (expertOf r) x E (112 * d + s) j := by
  unfold rowsOf stack
  by_cases hs : s.val < 56
  · rw [dif_pos (show ((ix2 s j : S112x512.Idx) 0).val < 56 from hs)]
    pointwise [k0_pay10, k0_pay9]
    refine Finset.sum_congr rfl fun k _ => ?_
    rw [gather_apply r h x d hd, read_expert 0 _ (by decide), hE, show (112 * d + s.val) / 56 = 2 * d + (0 : Fin 2).val by
      show _ = 2 * d + 0; omega]
    rfl
  · rw [dif_neg (show ¬ ((ix2 s j : S112x512.Idx) 0).val < 56 from hs)]
    pointwise [k0_pay11]
    refine Finset.sum_congr rfl fun k _ => ?_
    rw [gather_apply r h x d hd, read_expert 1 _ (by decide), hE, show (112 * d + s.val) / 56 = 2 * d + (1 : Fin 2).val by
      show _ = 2 * d + 1; omega]
    have e : (⟨56 + (s.val - 56), by omega⟩ : Fin 112) = s := Fin.ext (by show 56 + (s.val - 56) = s.val; omega)
    rw [e]
    rfl

/-- One slab's share of an accepted row's result is the row's slot if the slab holds it. -/
theorem slab_sum (p : Prop) [Decidable p] (n e : ℕ) (T : ℕ → EReal) :
    ∑ s : Fin 112, (if p ∧ n = 112 * e + s then (1 : EReal) else 0) * T (112 * e + s)
      = if p ∧ n / 112 = e then T n else 0 := by
  by_cases hp : p ∧ n / 112 = e
  · rw [if_pos hp, Finset.sum_eq_single (⟨n % 112, by omega⟩ : Fin 112)]
    · have q : n = 112 * e + n % 112 := by have := hp.2; omega
      rw [if_pos ⟨hp.1, q⟩, one_mul, ← q]
    · intro b _ hb
      rw [if_neg, zero_mul]
      rintro ⟨_, q⟩
      exact hb (Fin.ext (by show b.val = n % 112; omega))
    · intro hb; exact absurd (Finset.mem_univ _) hb
  · rw [if_neg hp]
    refine Finset.sum_eq_zero fun s _ => ?_
    rw [if_neg, zero_mul]
    rintro ⟨a, q⟩
    exact hp ⟨a, by omega⟩

/-- The result on device `d`, when slab `k` holds the slots of the device `k` places on: an accepted row is its slot's. -/
theorem resultOf_apply (r : Vec Ideal S512x1 .i32) (h : ∀ i, expertOf r i < 8) (d : ℕ) (hd : d < 4)
    (Y : Fin 4 → S112x512.Idx → Elt Ideal .bf16) (T : ℕ → Fin 512 → EReal)
    (hY : ∀ (k : Fin 4) (s : Fin 112) (j : Fin 512), Y k (ix2 s j) = T (112 * ((d + k) % 4) + s) j) (i j : Fin 512) :
    resultOf (F := Ideal) (BitVec.ofNat 32 d) r Y (ix2 i j)
      = if rank (expertOf r) i < 51 then T (slot (expertOf r) i) j else 0 := by
  have hk : ∀ (k : Fin 4) (f : Fin 112 → Fin 448), (∀ s, (f s).val = 112 * k + s) →
      (∑ s : Fin 112, (FloatOps.sitofp .f32 (maskOf (F := Ideal) (BitVec.ofNat 32 d) r (ix2 i (f s))) : Ideal .f32)
          * (slab (F := Ideal) (Y k) (ix3 (n0 := 1) 0 s j) : EReal) : EReal)
        = if rank (expertOf r) i < 51 ∧ slot (expertOf r) i / 112 = (d + k) % 4 then T (slot (expertOf r) i) j else 0 := by
    intro k f hf
    rw [← slab_sum _ _ _ (fun n => T n j)]
    refine Finset.sum_congr rfl fun s _ => ?_
    rw [scatter_apply r h d hd, hf]
    have e : (112 * d + (112 * k.val + s.val)) % 448 = 112 * ((d + k) % 4) + s := by omega
    rw [e]
    exact congrArg (_ * ·) (hY k s j)
  unfold resultOf
  pointwise [k0_pay16, k0_pay15, k0_pay14, k0_pay13]
  rw [hk 0 (fun s => ⟨s.val, by omega⟩) (fun s => by show s.val = 112 * 0 + s.val; omega),
    hk 3 (fun s => ⟨336 + s.val, by omega⟩) (fun s => rfl),
    hk 1 (fun s => ⟨112 + s.val, by omega⟩) (fun s => rfl),
    hk 2 (fun s => ⟨224 + s.val, by omega⟩) (fun s => rfl)]
  by_cases hr : rank (expertOf r) i < 51
  · have hn : slot (expertOf r) i / 112 < 4 := by have := h i; unfold slot; omega
    generalize slot (expertOf r) i / 112 = a at hn ⊢
    generalize T (slot (expertOf r) i) j = v
    simp only [hr, true_and, if_true]
    clear hk hY
    interval_cases a <;> interval_cases d <;> simp
  · simp only [hr, false_and, if_false, add_zero]

end Cert.Moe

end
-- ==== Proof.Reference.lean ====
/-
# The reference

The reference counts ranks with words and chooses, for every row, among the eight products of the tokens
with the experts. Here: when every route is one of the eight experts, its result at a row of rank below 51
is the row's token times the row's expert, and zero at the others.
-/
module

public import proofs.«01_k».proof.Proof.Counts
public import proofs.«01_k».proof.Proof.Gen.ReferenceIdeal.Run
public import Idealize.ShloMosaic.Lib.IndicatorCount
public import Idealize.ShloMosaic.Lib.Tactic.CleanTypes

@[expose] public section

set_option maxRecDepth 16384

noncomputable section

namespace Cert.Moe

open Cert.ReferenceIdeal Cert.ReferenceIdeal.Gen Cert.ReferenceIdeal.Value
open Idealize.ShloMosaic
open scoped BigOperators

/-- The eight experts of the whole weight array, by number. -/
def experts (W : Vec Ideal S8x256x512 .f32) (e : ℕ) (k : Fin 256) (j : Fin 512) : EReal :=
  if h : e < 8 then W (ix3 ⟨e, h⟩ k j) else 0

/-- The layer: a row whose rank is below 51 is its token times its expert, the others are zero. -/
def layer (t : Fin 512 → ℕ) (x : Vec Ideal S512x256 .f32) (W : Vec Ideal S8x256x512 .f32) (i j : Fin 512) : EReal :=
  if rank t i < 51 then ∑ k : Fin 256, x (ix2 i k) * experts W (t i) k j else 0

/-- Comparing the words of two small natural numbers compares the numbers. -/
theorem cmpi_slt_ofNat (a b : ℕ) (ha : a < 2 ^ 31) (hb : b < 2 ^ 31) :
    IntOp.cmpi .slt (BitVec.ofNat 32 a) (BitVec.ofNat 32 b) = BitVec.ofBool (decide (a < b)) := by
  show BitVec.ofBool ((BitVec.ofNat 32 a).slt (BitVec.ofNat 32 b)) = _
  rw [BitVec.slt_eq_decide, WordArith.toInt_ofNat_small a ha, WordArith.toInt_ofNat_small b hb]
  congr 1
  exact decide_eq_decide.mpr Int.ofNat_lt

/-- The reference's count of the earlier rows with the same route is the rank. -/
theorem rank_word (r : Vec Ideal S512x1 .i32) (i : Fin 512) :
    Finset.fold IntOp.addi 0#32 (fun x : Fin 512 => BitVec.setWidth 32
        (IntOp.andi (IntOp.cmpi .slt (BitVec.ofNat 32 x.val) (BitVec.ofNat 32 i.val))
          (IntOp.cmpi .eq (r (ix2 i 0)) (r (ix2 x 0))))) Finset.univ
      = BitVec.ofNat 32 (rank (expertOf r) i) := by
  rw [IndicatorCount.fold_addi_setWidth_eq_card]
  unfold rank
  refine congrArg (fun s => BitVec.ofNat 32 (Finset.card s)) (Finset.filter_congr fun x _ => ?_)
  have he : IntOp.cmpi .eq (r (ix2 i 0)) (r (ix2 x 0)) = BitVec.ofBool (decide (expertOf r i = expertOf r x)) := by
    show BitVec.ofBool (r (ix2 i 0) == r (ix2 x 0)) = _
    rw [beq_eq_decide]
    exact congrArg _ (decide_eq_decide.mpr BitVec.toNat_inj.symm)
  rw [he, cmpi_slt_ofNat _ _ (by omega) (by omega), WordArith.andi_ofBool, ← Bool.decide_and,
    WordArith.ofBool_eq_one_iff, decide_eq_true_iff]
  exact and_congr Fin.lt_def.symm eq_comm

/-- One of the reference's choices: expert `e`'s product for the accepted rows routed to it. -/
theorem choice (w : BitVec 32) (n e : ℕ) (hn : n < 512) (he : e < 8) (a b : EReal) :
    Scalar.select (IntOp.andi (IntOp.cmpi .eq w (BitVec.ofNat 32 e)) (IntOp.cmpi .slt (BitVec.ofNat 32 n) 51#32)) a b
      = if w.toNat = e ∧ n < 51 then a else b := by
  rw [cmpi_eq_ofNat w e (by omega), cmpi_slt_ofNat n 51 (by omega) (by omega), WordArith.andi_ofBool, ← Bool.decide_and]
  by_cases h : w.toNat = e ∧ n < 51
  · rw [if_pos h, decide_eq_true h]; rfl
  · rw [if_neg h, decide_eq_false h]; rfl

/-- The reference's result is the layer. -/
theorem reference_apply (m : (ℓ : Loc nD τ sig) → Buf (Elt Ideal) ℓ) (c : Dev nD) (x : Vec Ideal S512x256 .f32)
    (r : Vec Ideal S512x1 .i32) (W : Vec Ideal S8x256x512 .f32)
    (hx : m ((c.tc : Thread nD τ).loc main_arg0) = x) (hr : m ((c.tc : Thread nD τ).loc main_arg2) = r)
    (hW : m ((c.tc : Thread nD τ).loc main_arg3) = W) (h : ∀ i, expertOf r i < 8) (i j : Fin 512) :
    res_main_v88 m c (ix2 i j) = layer (expertOf r) x W i j := by
  unfold res_main_v88
  clean_types
  rw [hx, hr, hW]
  pointwise
  rw [rank_word]
  have hk := rank_lt (expertOf r) i
  have hc := fun (e : ℕ) (he : e < 8) => choice (r (ix2 i 0)) _ e hk he
  rw [hc 7 (by omega), hc 6 (by omega), hc 5 (by omega), hc 4 (by omega), hc 3 (by omega), hc 2 (by omega),
    hc 1 (by omega), hc 0 (by omega)]
  unfold layer experts
  by_cases hn : rank (expertOf r) i < 51
  · have ht : (r (ix2 i 0)).toNat < 8 := h i
    have e : expertOf r i = (r (ix2 i 0)).toNat := rfl
    rw [if_pos hn, e]
    generalize (r (ix2 i 0)).toNat = t at ht ⊢
    simp only [hn, and_true]
    interval_cases t <;> rfl
  · simp only [hn, and_false, if_false]

end Cert.Moe

end
-- ==== Proof.Equation.lean ====
/-
# The equation

From memories that agree, every device of the kernel ends with the layer's result, which is the
reference's.
-/
module

public import proofs.«01_k».proof.Proof.Rows
public import proofs.«01_k».proof.Proof.Reference
public import proofs.«01_k».proof.Proof.Arrays
public import Idealize.ShloMosaic.Lib.Layout

@[expose] public section

set_option maxRecDepth 16384

noncomputable section

namespace Cert.Moe

open Cert.KernelIdeal Cert.KernelIdeal.Gen
open Idealize.ShloMosaic Idealize.ShloMosaic.TcCoe
open scoped BigOperators

variable (m : (ℓ : Loc nD τ sig) → Buf (Elt Ideal) ℓ) (ρ : Dev nD → PrngReg)

/-- Expert `b` of device `c`'s two is expert `2 c + b` of the eight. -/
theorem block_expert (W : Vec Ideal Cert.ReferenceIdeal.S8x256x512 .f32) (c : Dev nD) (b : Fin 2) (k : Fin 256)
    (j : Fin 512) :
    (Layout.block ⟨3, ![2, 256, 512]⟩ ⟨3, ![8, 256, 512]⟩ 0 4 c W : _ → EReal) (ix3 b k j) = experts W (2 * c.val + b.val) k j := by
  have hc : c.val < 4 := c.isLt
  unfold experts
  rw [dif_pos (by omega)]
  refine congrArg W (funext fun a => Fin.ext ?_)
  rw [Layout.Tiles.idx_val]
  fin_cases a
  · show c.val * 2 + b.val = 2 * c.val + b.val; omega
  · rfl
  · rfl

/-- Every device's result is the layer of the whole arrays. -/
theorem outAt_apply (x : Vec Ideal S512x256 .f32) (r : Vec Ideal S512x1 .i32)
    (W : Vec Ideal Cert.ReferenceIdeal.S8x256x512 .f32)
    (hx : ∀ c : Dev nD, m ((c.tc : Thread nD τ).loc main_arg0) = x)
    (hr : ∀ c : Dev nD, m ((c.tc : Thread nD τ).loc main_arg2) = r)
    (hW : ∀ c : Dev nD, m ((c.tc : Thread nD τ).loc main_arg3) = Layout.block ⟨3, ![2, 256, 512]⟩ ⟨3, ![8, 256, 512]⟩ 0 4 c W)
    (h : ∀ i, expertOf r i < 8) (c : Dev nD) (i j : Fin 512) :
    outAt m ρ c (ix2 i j) = layer (expertOf r) x W i j := by
  have hrows : ∀ (c : Dev nD) (s : Fin 112) (j : Fin 512),
      rows m ρ c (ix2 s j) = table (expertOf r) x (experts W) (112 * c.val + s) j := by
    intro c s j
    unfold rows
    rw [word_eq, xstg_eq, rstg_eq, wstg_eq, hx, hr, hW]
    exact rowsOf_apply r h x _ (experts W) c.val c.isLt (block_expert W c) s j
  unfold outAt
  rw [word_eq, rstg_eq, hr]
  refine (resultOf_apply r h c.val c.isLt _ (table (expertOf r) x (experts W)) (fun k s j => ?_) i j).trans ?_
  · have ho : slots m ρ c k = rows m ρ ⟨(c.val + k.val) % 4, Nat.mod_lt _ (by decide)⟩ := by
      fin_cases k
      · exact congrArg (rows m ρ) (Fin.ext (Nat.mod_eq_of_lt c.isLt).symm)
      · rfl
      · rfl
      · rfl
    rw [ho]
    exact hrows _ s j
  · unfold layer
    split_ifs with hi
    · exact table_slot _ x _ i hi j
    · rfl

end Cert.Moe

end
-- ==== Proof.Routed.lean ====
/-
# The precondition

The precondition asks that every route is one of the eight experts. Here: that is what it says of the word
in each row.
-/
module

public import proofs.«01_k».proof.Proof.Counts
public import proofs.«01_k».proof.Proof.Gen.Pre_routed_KernelIdeal
public import Idealize.ShloMosaic.Lib.ReduceAll

@[expose] public section

noncomputable section

namespace Cert.Moe

open Cert.Pre_routed_KernelIdeal Cert.Pre_routed_KernelIdeal.Gen
open Idealize.ShloMosaic

/-- Where the precondition holds every row's expert is one of the eight. -/
theorem expertOf_lt (x : FVec Ideal S512x256 .f32) (u : FVec Ideal S256x8 .f32) (r : IVec S512x1 32)
    (W : FVec Ideal S2x256x512 .f32) (h : fn (F := Ideal) x u r W = fun _ => 1#1) (i : Fin 512) : expertOf r i < 8 := by
  have hj := congrFun h (fun a => a.elim0)
  unfold fn at hj
  haveI : Subsingleton S_.Idx := ⟨fun a b => funext fun k => k.elim0⟩
  have hi := Host.reduce_andi_all _ _ _ _ _ hj (ix2 i 0)
  have hb := IntOp.andi_eq_one.1 hi
  refine WordArith.toNat_lt_of_zero_sle_of_slt_ofNat (r (ix2 i 0)) 8 (by omega) ?_ ?_
  · exact (WordArith.ofBool_eq_one_iff _).mp hb.1
  · exact (WordArith.ofBool_eq_one_iff _).mp hb.2

end Cert.Moe

end
-- ==== Proof.lean ====
/-
# The claim

Each part of the certificate's claim is a theorem of the modules below; here they are put together.
-/
module

public import proofs.«01_k».proof.Defs
public import proofs.«01_k».proof.Proof.Frames
public import proofs.«01_k».proof.Proof.Equation
public import proofs.«01_k».proof.Proof.Routed
public import proofs.«01_k».proof.Proof.Gen.Pre_routed_KernelIdeal
public import proofs.«01_k».proof.Proof.Gen.Pre_routed_ReferenceIdeal

@[expose] public section

noncomputable section

namespace Cert.Proof

open Idealize.ShloMosaic Idealize.SL.Sem

/-- The idealized kernel's result is the idealized reference's, from memories that agree and whose routes are experts. -/
theorem same_result : Cert.algebraic_KernelIdeal_ReferenceIdeal_pre_routed_KernelIdeal := by
  intro m g m' g' hpre hag
  have h := Cert.Moe.expertOf_lt _ _ _ _ (hpre 0)
  have hout : ∀ c, Cert.Moe.outAt m g c = Cert.ReferenceIdeal.Value.res_out0 m' 0 := fun c => funext fun i => by
    rw [eq_ix2 i]
    refine (Cert.Moe.outAt_apply m g _ _ _ (fun c => (hag c).1.trans (hag 0).1.symm)
      (fun c => (hag c).2.2.1.trans (hag 0).2.2.1.symm) (fun c => (hag c).2.2.2) h c _ _).trans ?_
    exact (Cert.Moe.reference_apply m' 0 _ _ _ (hag 0).1.symm (hag 0).2.2.1.symm rfl h _ _).symm
  refine ⟨Cert.ReferenceIdeal.Value.res_out0 m' 0, ?_, ?_⟩
  · exact (θ_run Cert.KernelIdeal.defs _ _).mono (fun r hr c =>
      ⟨(hr.1 c (4 : Fin 5)).trans ((Cert.Moe.finalA_out m g c).trans (hout c)),
        (hr.1 c (0 : Fin 5)).trans (Cert.Moe.finalA_in m g c 0 (by decide)),
        (hr.1 c (1 : Fin 5)).trans (Cert.Moe.finalA_in m g c 1 (by decide)),
        (hr.1 c (2 : Fin 5)).trans (Cert.Moe.finalA_in m g c 2 (by decide)),
        (hr.1 c (3 : Fin 5)).trans (Cert.Moe.finalA_in m g c 3 (by decide))⟩) (Cert.Moe.run_main m g)
  · exact (θ_run Cert.ReferenceIdeal.defs _ _).mono (fun r hr => hr 0) (Cert.ReferenceIdeal.Value.run (F := Ideal) m' g')

/-- The certificate's claim. -/
theorem claim : Cert.Claim := ⟨Cert.Kernel.Gen.facts, Cert.KernelIdeal.Gen.facts, Cert.ReferenceIdeal.Gen.facts,
  Cert.Pre_routed_KernelIdeal.Gen.facts, Cert.Pre_routed_ReferenceIdeal.Gen.facts,
  Cert.Moe.frame_kernel, Cert.Moe.frame_ideal, fun m ρ _ => Cert.Moe.frame_any (F := Ideal) m ρ,
  Cert.Moe.frame_reference, fun m ρ _ => Cert.Moe.frame_reference m ρ trivial, trivial, same_result⟩

end Cert.Proof

end
